-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_attention [hPre_finite_attention : Cert.Pre_finite_attention.Facts] (m : (ℓ : Loc Cert.KernelIdeal.nD Cert.KernelIdeal.τ Cert.KernelIdeal.sig) → Buf (Elt Ideal) ℓ) : Prop :=
  ∀ c : Dev Cert.KernelIdeal.nD,
    (Cert.Pre_finite_attention.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).1 = (fun _ => 1#1)
    ∧ (Cert.Pre_finite_attention.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.1 = (fun _ => 1#1)
    ∧ (Cert.Pre_finite_attention.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.1 = (fun _ => 1#1)
    ∧ (Cert.Pre_finite_attention.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.1 = (fun _ => 1#1)
    ∧ (Cert.Pre_finite_attention.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.1 = (fun _ => 1#1)
    ∧ (Cert.Pre_finite_attention.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.1 = (fun _ => 1#1)
    ∧ (Cert.Pre_finite_attention.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.1 = (fun _ => 1#1)
    ∧ (Cert.Pre_finite_attention.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_attention [hPre_finite_attention : Cert.Pre_finite_attention.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_attention.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).1 = (fun _ => 1#1)
    ∧ (Cert.Pre_finite_attention.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.1 = (fun _ => 1#1)
    ∧ (Cert.Pre_finite_attention.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.1 = (fun _ => 1#1)
    ∧ (Cert.Pre_finite_attention.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.1 = (fun _ => 1#1)
    ∧ (Cert.Pre_finite_attention.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.1 = (fun _ => 1#1)
    ∧ (Cert.Pre_finite_attention.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.1 = (fun _ => 1#1)
    ∧ (Cert.Pre_finite_attention.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.1 = (fun _ => 1#1)
    ∧ (Cert.Pre_finite_attention.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_KernelIdeal_pre_finite_attention [hKernelIdeal : Cert.KernelIdeal.Facts] [hPre_finite_attention : Cert.Pre_finite_attention.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_attention m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_finite_attention [hReferenceIdeal : Cert.ReferenceIdeal.Facts] [hPre_finite_attention : Cert.Pre_finite_attention.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_attention m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  IdealRules.named_const.Statement Cert.KernelIdeal.κ "inv_sqrt_d" .f32 0x3D3504F3#32 (((Real.sqrt 512)⁻¹ : ℝ) : EReal)
  ∧ IdealRules.named_const.Statement Cert.KernelIdeal.κ "mask" .f32 0xCE6E6B28#32 ⊥

def algebraic_KernelIdeal_ReferenceIdeal_pre_finite_attention [hKernelIdeal : Cert.KernelIdeal.Facts] [hReferenceIdeal : Cert.ReferenceIdeal.Facts] [hPre_finite_attention : Cert.Pre_finite_attention.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_attention m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_attention : Cert.Pre_finite_attention.Facts),
    quiescent_Kernel (hKernel := hKernel)
    ∧ quiescent_KernelIdeal (hKernelIdeal := hKernelIdeal)
    ∧ quiescent_KernelIdeal_pre_finite_attention (hKernelIdeal := hKernelIdeal) (hPre_finite_attention := hPre_finite_attention)
    ∧ quiescent_ReferenceIdeal (hReferenceIdeal := hReferenceIdeal)
    ∧ quiescent_ReferenceIdeal_pre_finite_attention (hReferenceIdeal := hReferenceIdeal) (hPre_finite_attention := hPre_finite_attention)
    ∧ preserves_Kernel_KernelIdeal
    ∧ algebraic_KernelIdeal_ReferenceIdeal_pre_finite_attention (hKernelIdeal := hKernelIdeal) (hReferenceIdeal := hReferenceIdeal) (hPre_finite_attention := hPre_finite_attention)
-- ==== Pre_finite_attention.lean ====
abbrev S1024x512 : Shape := ⟨2, ![1024, 512]⟩
abbrev S1024x64x512 : Shape := ⟨3, ![1024, 64, 512]⟩
abbrev S1024x64 : Shape := ⟨2, ![1024, 64]⟩
abbrev S512x512 : Shape := ⟨2, ![512, 512]⟩
abbrev S512 : Shape := ⟨1, ![512]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S1024x64x512 : S_.BroadcastsInDim S1024x64x512 (![] : Fin 0 → Fin S1024x64x512.rank)
  bcast_S_S512x512 : S_.BroadcastsInDim S512x512 (![] : Fin 0 → Fin S512x512.rank)
  bcast_S_S512 : S_.BroadcastsInDim S512 (![] : Fin 0 → Fin S512.rank)

variable [Facts]

def fn_part1 {F : FTy → Type} [FloatOps F] (main_arg12 : FVec F S512 .f32) (main_arg13 : FVec F S512 .f32) (main_v2 : IVec S1024x64x512 1) (main_v5 : IVec S512x512 1) (main_v8 : IVec S512 1) (main_v11 : IVec S512x512 1) (main_v14 : IVec S512 1) (main_v17 : IVec S512x512 1) : IVec S1024x64x512 1 × IVec S512x512 1 × IVec S512 1 × IVec S512x512 1 × IVec S512 1 × IVec S512x512 1 × IVec S512 1 × IVec S512 1 :=
  let main_v18 : FVec F S512 .f32 := Host.absf main_arg12
  let main_cst_5 : FVec F S_ .f32 := constant S_ .f32 0x7F800000#32
  let main_v19 : FVec F S512 .f32 := broadcastInDim S512 ![] bcast_S_S512 main_cst_5
  let main_v20 : IVec S512 1 := cmpf .olt main_v18 main_v19
  let main_v21 : FVec F S512 .f32 := Host.absf main_arg13
  let main_cst_6 : FVec F S_ .f32 := constant S_ .f32 0x7F800000#32
  let main_v22 : FVec F S512 .f32 := broadcastInDim S512 ![] bcast_S_S512 main_cst_6
  let main_v23 : IVec S512 1 := cmpf .olt main_v21 main_v22
  (main_v2, main_v5, main_v8, main_v11, main_v14, main_v17, main_v20, main_v23)

def fn {F : FTy → Type} [FloatOps F] (main_arg0 : FVec F S1024x512 .f32) (main_arg1 : FVec F S1024x64x512 .f32) (main_arg2 : FVec F S1024x64x512 .f32) (main_arg3 : IVec S1024x64 1) (main_arg4 : FVec F S512x512 .f32) (main_arg5 : FVec F S512 .f32) (main_arg6 : FVec F S512x512 .f32) (main_arg7 : FVec F S512 .f32) (main_arg8 : FVec F S512x512 .f32) (main_arg9 : FVec F S512 .f32) (main_arg10 : FVec F S512x512 .f32) (main_arg11 : FVec F S512 .f32) (main_arg12 : FVec F S512 .f32) (main_arg13 : FVec F S512 .f32) (main_arg14 : FVec F S512 .f32) (main_arg15 : FVec F S512 .f32) (main_arg16 : FVec F S1024x64 .f32) (main_arg17 : FVec F S64 .f32) (main_arg18 : FVec F S64x1 .f32) (main_arg19 : FVec F S1 .f32) : IVec S1024x64x512 1 × IVec S512x512 1 × IVec S512 1 × IVec S512x512 1 × IVec S512 1 × IVec S512x512 1 × IVec S512 1 × IVec S512 1 :=
  let main_v0 : FVec F S1024x64x512 .f32 := Host.absf main_arg1
  let main_cst : FVec F S_ .f32 := constant S_ .f32 0x7F800000#32
  let main_v1 : FVec F S1024x64x512 .f32 := broadcastInDim S1024x64x512 ![] bcast_S_S1024x64x512 main_cst
  let main_v2 : IVec S1024x64x512 1 := cmpf .olt main_v0 main_v1
  let main_v3 : FVec F S512x512 .f32 := Host.absf main_arg4
  let main_cst_0 : FVec F S_ .f32 := constant S_ .f32 0x7F800000#32
  let main_v4 : FVec F S512x512 .f32 := broadcastInDim S512x512 ![] bcast_S_S512x512 main_cst_0
  let main_v5 : IVec S512x512 1 := cmpf .olt main_v3 main_v4
  let main_v6 : FVec F S512 .f32 := Host.absf main_arg5
  let main_cst_1 : FVec F S_ .f32 := constant S_ .f32 0x7F800000#32
  let main_v7 : FVec F S512 .f32 := broadcastInDim S512 ![] bcast_S_S512 main_cst_1
  let main_v8 : IVec S512 1 := cmpf .olt main_v6 main_v7
  let main_v9 : FVec F S512x512 .f32 := Host.absf main_arg6
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_v12 : FVec F S512 .f32 := Host.absf main_arg7
  let main_cst_3 : FVec F S_ .f32 := constant S_ .f32 0x7F800000#32
  let main_v13 : FVec F S512 .f32 := broadcastInDim S512 ![] bcast_S_S512 main_cst_3
  let main_v14 : IVec S512 1 := cmpf .olt main_v12 main_v13
  let main_v15 : FVec F S512x512 .f32 := Host.absf main_arg8
  let main_cst_4 : FVec F S_ .f32 := constant S_ .f32 0x7F800000#32
  let main_v16 : FVec F S512x512 .f32 := broadcastInDim S512x512 ![] bcast_S_S512x512 main_cst_4
  let main_v17 : IVec S512x512 1 := cmpf .olt main_v15 main_v16
  fn_part1 (F := F) main_arg12 main_arg13 main_v2 main_v5 main_v8 main_v11 main_v14 main_v17
-- ==== Kernel.lean ====
abbrev S1024x512 : Shape := ⟨2, ![1024, 512]⟩
abbrev S1024x64x512 : Shape := ⟨3, ![1024, 64, 512]⟩
abbrev S1024x64 : Shape := ⟨2, ![1024, 64]⟩
abbrev S512x512 : Shape := ⟨2, ![512, 512]⟩
abbrev S512 : Shape := ⟨1, ![512]⟩
abbrev S64 : Shape := ⟨1, ![64]⟩
abbrev S64x1 : Shape := ⟨2, ![64, 1]⟩
abbrev S1 : Shape := ⟨1, ![1]⟩
abbrev S512x64 : Shape := ⟨2, ![512, 64]⟩
abbrev S1x512 : Shape := ⟨2, ![1, 512]⟩
abbrev S1x64 : Shape := ⟨2, ![1, 64]⟩
abbrev S1x1 : Shape := ⟨2, ![1, 1]⟩
abbrev S64x512 : Shape := ⟨2, ![64, 512]⟩
abbrev S64x64x512 : Shape := ⟨3, ![64, 64, 512]⟩
abbrev S64x64 : Shape := ⟨2, ![64, 64]⟩
abbrev S4096x512 : Shape := ⟨2, ![4096, 512]⟩
abbrev S4096x64 : Shape := ⟨2, ![4096, 64]⟩
abbrev S64x64x64 : Shape := ⟨3, ![64, 64, 64]⟩
abbrev S1x1x64 : Shape := ⟨3, ![1, 1, 64]⟩
abbrev S64x1x512 : Shape := ⟨3, ![64, 1, 512]⟩
abbrev S64x64x1 : Shape := ⟨3, ![64, 64, 1]⟩

abbrev nBuf : Space → Nat
  | .hbm => 34
  | .vmem => 26
  | .smem => 0
  | _ => 0

abbrev bufTy : (tb : Table) → Fin (tcTables nBuf tb) → BufTy
  | .hbm, ⟨0, _⟩ => ⟨S1024x512, .f32⟩
  | .hbm, ⟨1, _⟩ => ⟨S1024x64x512, .f32⟩
  | .hbm, ⟨2, _⟩ => ⟨S1024x64x512, .f32⟩
  | .hbm, ⟨3, _⟩ => ⟨S1024x64, .i1⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S512, .f32⟩
  | .hbm, ⟨13, _⟩ => ⟨S512, .f32⟩
  | .hbm, ⟨14, _⟩ => ⟨S512, .f32⟩
  | .hbm, ⟨15, _⟩ => ⟨S512, .f32⟩
  | .hbm, ⟨16, _⟩ => ⟨S1024x64, .f32⟩
  | .hbm, ⟨17, _⟩ => ⟨S64, .f32⟩
  | .hbm, ⟨18, _⟩ => ⟨S64x1, .f32⟩
  | .hbm, ⟨19, _⟩ => ⟨S1, .f32⟩
  | .hbm, ⟨20, _⟩ => ⟨S1024x64, .f32⟩
  | .hbm, ⟨21, _⟩ => ⟨S512x64, .f32⟩
  | .hbm, ⟨22, _⟩ => ⟨S512x64, .f32⟩
  | .hbm, ⟨23, _⟩ => ⟨S1x512, .f32⟩
  | .hbm, ⟨24, _⟩ => ⟨S1x512, .f32⟩
  | .hbm, ⟨25, _⟩ => ⟨S1x512, .f32⟩
  | .hbm, ⟨26, _⟩ => ⟨S1x512, .f32⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S1x64, .f32⟩
  | .hbm, ⟨31, _⟩ => ⟨S1x64, .f32⟩
  | .hbm, ⟨32, _⟩ => ⟨S1x1, .f32⟩
  | .hbm, ⟨33, _⟩ => ⟨S1024x512, .f32⟩
  | .local _ .vmem, ⟨0, _⟩ => ⟨S64x512, .f32⟩
  | .local _ .vmem, ⟨1, _⟩ => ⟨S64x512, .f32⟩
  | .local _ .vmem, ⟨2, _⟩ => ⟨S64x64x512, .f32⟩
  | .local _ .vmem, ⟨3, _⟩ => ⟨S64x64x512, .f32⟩
  | .local _ .vmem, ⟨4, _⟩ => ⟨S64x64x512, .f32⟩
  | .local _ .vmem, ⟨5, _⟩ => ⟨S64x64x512, .f32⟩
  | .local _ .vmem, ⟨6, _⟩ => ⟨S64x64, .f32⟩
  | .local _ .vmem, ⟨7, _⟩ => ⟨S64x64, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S512x64, .f32⟩
  | .local _ .vmem, ⟨20, _⟩ => ⟨S512x64, .f32⟩
  | .local _ .vmem, ⟨21, _⟩ => ⟨S1x64, .f32⟩
  | .local _ .vmem, ⟨22, _⟩ => ⟨S1x64, .f32⟩
  | .local _ .vmem, ⟨23, _⟩ => ⟨S1x1, .f32⟩
  | .local _ .vmem, ⟨24, _⟩ => ⟨S64x512, .f32⟩
  | .local _ .vmem, ⟨25, _⟩ => ⟨S64x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_v0 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg20_0 : Ref sig .tc := ⟨.vmem, 24, rfl⟩
abbrev cc0_stg20_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem20_0 : DmaSem sig := 24
abbrev cc0_sem20_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S64x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== KernelIdeal.lean ====
variable {F : FTy → Type} [FloatOps F] [Named F]
def κ : String → Option EReal := fun
  | "inv_sqrt_d" => some (((Real.sqrt 512)⁻¹ : ℝ) : EReal)
  | "mask" => some ⊥
  | _ => none
-- ==== ReferenceIdeal.lean ====
abbrev S1024x512 : Shape := ⟨2, ![1024, 512]⟩
abbrev S1024x64x512 : Shape := ⟨3, ![1024, 64, 512]⟩
abbrev S1024x64 : Shape := ⟨2, ![1024, 64]⟩
abbrev S512x512 : Shape := ⟨2, ![512, 512]⟩
abbrev S512 : Shape := ⟨1, ![512]⟩
abbrev S64 : Shape := ⟨1, ![64]⟩
abbrev S64x1 : Shape := ⟨2, ![64, 1]⟩
abbrev S1 : Shape := ⟨1, ![1]⟩
abbrev S1024x64x1024 : Shape := ⟨3, ![1024, 64, 1024]⟩
abbrev S1024x64x64 : Shape := ⟨3, ![1024, 64, 64]⟩
abbrev S1x1x64 : Shape := ⟨3, ![1, 1, 64]⟩
abbrev S_ : Shape := ⟨0, ![]⟩
abbrev S1024x64x1 : Shape := ⟨3, ![1024, 64, 1]⟩
abbrev S1x1x1 : Shape := ⟨3, ![1, 1, 1]⟩
abbrev S1024 : Shape := ⟨1, ![1024]⟩
abbrev S1024x1 : Shape := ⟨2, ![1024, 1]⟩
abbrev S1x512 : Shape := ⟨2, ![1, 512]⟩
abbrev S1x1x512 : Shape := ⟨3, ![1, 1, 512]⟩

abbrev nBuf : Space → Nat
  | .hbm => 184
  | .vmem => 0
  | .smem => 0
  | _ => 0

abbrev hbmTy0_0 (i : Nat) : BufTy := match i % 128 with
  | 0 => ⟨S1024x512, .f32⟩
  | 1 => ⟨S1024x64x512, .f32⟩
  | 2 => ⟨S1024x64x512, .f32⟩
  | 3 => ⟨S1024x64, .i1⟩
  | 4 => ⟨S512x512, .f32⟩
  | 5 => ⟨S512, .f32⟩
  | 6 => ⟨S512x512, .f32⟩
  | 7 => ⟨S512, .f32⟩
  | 8 => ⟨S512x512, .f32⟩
  | 9 => ⟨S512, .f32⟩
  | 10 => ⟨S512x512, .f32⟩
  | 11 => ⟨S512, .f32⟩
  | 12 => ⟨S512, .f32⟩
  | 13 => ⟨S512, .f32⟩
  | 14 => ⟨S512, .f32⟩
  | 15 => ⟨S512, .f32⟩
  | 16 => ⟨S1024x64, .f32⟩
  | 17 => ⟨S64, .f32⟩
  | 18 => ⟨S64x1, .f32⟩
  | 19 => ⟨S1, .f32⟩
  | 20 => ⟨S1024x64x1024, .f32⟩
  | 21 => ⟨S1024x64x64, .f32⟩
  | 22 => ⟨S1x1x64, .f32⟩
  | 23 => ⟨S1024x64x64, .f32⟩
  | 24 => ⟨S1024x64x64, .f32⟩
  | 25 => ⟨S_, .f32⟩
  | 26 => ⟨S1024x64x64, .f32⟩
  | 27 => ⟨S1024x64x64, .f32⟩
  | 28 => ⟨S1024x64x1, .f32⟩
  | 29 => ⟨S1x1x1, .f32⟩
  | 30 => ⟨S1024x64x1, .f32⟩
  | 31 => ⟨S1024x64x1, .f32⟩
  | 32 => ⟨S_, .f32⟩
  | 33 => ⟨S1024x64x1, .f32⟩
  | 34 => ⟨S1024x64x1, .f32⟩
  | 35 => ⟨S1024x64x1, .f32⟩
  | 36 => ⟨S1024x64x1, .f32⟩
  | 37 => ⟨S1024x64x1, .i1⟩
  | 38 => ⟨S1024x64x1, .f32⟩
  | 39 => ⟨S1024x64x1, .f32⟩
  | 40 => ⟨S1024x64x1, .f32⟩
  | 41 => ⟨S1024x64x1, .f32⟩
  | 42 => ⟨S1024x64x1, .f32⟩
  | 43 => ⟨S1024x64x1, .f32⟩
  | 44 => ⟨S1024x64x1, .f32⟩
  | 45 => ⟨S1024x64x1, .f32⟩
  | 46 => ⟨S1024x64, .f32⟩
  | 47 => ⟨S_, .f32⟩
  | 48 => ⟨S1024, .f32⟩
  | 49 => ⟨S1024x1, .f32⟩
  | 50 => ⟨S_, .f32⟩
  | 51 => ⟨S1024x1, .f32⟩
  | 52 => ⟨S1024x1, .f32⟩
  | 53 => ⟨S_, .i32⟩
  | 54 => ⟨S_, .f32⟩
  | 55 => ⟨S1024, .f32⟩
  | 56 => ⟨S1024x1, .f32⟩
  | 57 => ⟨S_, .f32⟩
  | 58 => ⟨S1024x1, .f32⟩
  | 59 => ⟨S1024x1, .f32⟩
  | 60 => ⟨S1024x512, .f32⟩
  | 61 => ⟨S1024x512, .f32⟩
  | 62 => ⟨S1024x512, .f32⟩
  | 63 => ⟨S_, .f32⟩
  | 64 => ⟨S_, .f32⟩
  | 65 => ⟨S_, .f32⟩
  | 66 => ⟨S_, .f32⟩
  | 67 => ⟨S1024, .f32⟩
  | 68 => ⟨S1024x1, .f32⟩
  | 69 => ⟨S1024x1, .f32⟩
  | 70 => ⟨S1024x1, .f32⟩
  | 71 => ⟨S_, .f32⟩
  | 72 => ⟨S_, .i1⟩
  | 73 => ⟨S_, .f32⟩
  | 74 => ⟨S_, .f32⟩
  | 75 => ⟨S1024x1, .f32⟩
  | 76 => ⟨S1024x1, .f32⟩
  | 77 => ⟨S1024x512, .f32⟩
  | 78 => ⟨S1024x512, .f32⟩
  | 79 => ⟨S_, .f32⟩
  | 80 => ⟨S1024x1, .f32⟩
  | 81 => ⟨S1024x1, .f32⟩
  | 82 => ⟨S1024x1, .f32⟩
  | 83 => ⟨S1024x512, .f32⟩
  | 84 => ⟨S1024x512, .f32⟩
  | 85 => ⟨S1x512, .f32⟩
  | 86 => ⟨S1024x512, .f32⟩
  | 87 => ⟨S1024x512, .f32⟩
  | 88 => ⟨S1x512, .f32⟩
  | 89 => ⟨S1024x512, .f32⟩
  | 90 => ⟨S1024x512, .f32⟩
  | 91 => ⟨S1024x512, .f32⟩
  | 92 => ⟨S1x512, .f32⟩
  | 93 => ⟨S1024x512, .f32⟩
  | 94 => ⟨S1024x512, .f32⟩
  | 95 => ⟨S1024x64x512, .f32⟩
  | 96 => ⟨S1x1x512, .f32⟩
  | 97 => ⟨S1024x64x512, .f32⟩
  | 98 => ⟨S1024x64x512, .f32⟩
  | 99 => ⟨S1024x64x512, .f32⟩
  | 100 => ⟨S1x1x512, .f32⟩
  | 101 => ⟨S1024x64x512, .f32⟩
  | 102 => ⟨S1024x64x512, .f32⟩
  | 103 => ⟨S1024x64, .f32⟩
  | 104 => ⟨S_, .f32⟩
  | 105 => ⟨S_, .f32⟩
  | 106 => ⟨S1024x64, .f32⟩
  | 107 => ⟨S1024x64, .f32⟩
  | 108 => ⟨S_, .f32⟩
  | 109 => ⟨S_, .f32⟩
  | 110 => ⟨S1024x64, .f32⟩
  | 111 => ⟨S1024x64, .f32⟩
  | 112 => ⟨S_, .f32⟩
  | 113 => ⟨S1024, .f32⟩
  | 114 => ⟨S_, .f32⟩
  | 115 => ⟨S1024, .f32⟩
  | 116 => ⟨S1024, .f32⟩
  | 117 => ⟨S1024x1, .f32⟩
  | 118 => ⟨S1024x64, .f32⟩
  | 119 => ⟨S1024x64, .f32⟩
  | 120 => ⟨S1024x64, .f32⟩
  | 121 => ⟨S_, .f32⟩
  | 122 => ⟨S1024, .f32⟩
  | 123 => ⟨S1024x1, .f32⟩
  | 124 => ⟨S1024x64, .f32⟩
  | 125 => ⟨S1024x64, .f32⟩
  | 126 => ⟨S1024x64, .f32⟩
  | 127 => ⟨S_, .f32⟩
  | _ => ⟨S1024x512, .f32⟩

abbrev hbmTy0_1 (i : Nat) : BufTy := match i % 128 with
  | 0 => ⟨S1024, .f32⟩
  | 1 => ⟨S1024x1, .f32⟩
  | 2 => ⟨S_, .f32⟩
  | 3 => ⟨S1024x1, .f32⟩
  | 4 => ⟨S1024x1, .f32⟩
  | 5 => ⟨S1024x64, .f32⟩
  | 6 => ⟨S1024x64, .f32⟩
  | 7 => ⟨S1024x512, .f32⟩
  | 8 => ⟨S1024x512, .f32⟩
  | 9 => ⟨S1x512, .f32⟩
  | 10 => ⟨S1024x512, .f32⟩
  | 11 => ⟨S1024x512, .f32⟩
  | 12 => ⟨S_, .f32⟩
  | 13 => ⟨S1024, .f32⟩
  | 14 => ⟨S1024x1, .f32⟩
  | 15 => ⟨S_, .f32⟩
  | 16 => ⟨S1024x1, .f32⟩
  | 17 => ⟨S1024x1, .f32⟩
  | 18 => ⟨S_, .i32⟩
  | 19 => ⟨S_, .f32⟩
  | 20 => ⟨S1024, .f32⟩
  | 21 => ⟨S1024x1, .f32⟩
  | 22 => ⟨S_, .f32⟩
  | 23 => ⟨S1024x1, .f32⟩
  | 24 => ⟨S1024x1, .f32⟩
  | 25 => ⟨S1024x512, .f32⟩
  | 26 => ⟨S1024x512, .f32⟩
  | 27 => ⟨S1024x512, .f32⟩
  | 28 => ⟨S_, .f32⟩
  | 29 => ⟨S_, .f32⟩
  | 30 => ⟨S_, .f32⟩
  | 31 => ⟨S_, .f32⟩
  | 32 => ⟨S1024, .f32⟩
  | 33 => ⟨S1024x1, .f32⟩
  | 34 => ⟨S1024x1, .f32⟩
  | 35 => ⟨S1024x1, .f32⟩
  | 36 => ⟨S_, .f32⟩
  | 37 => ⟨S_, .i1⟩
  | 38 => ⟨S_, .f32⟩
  | 39 => ⟨S_, .f32⟩
  | 40 => ⟨S1024x1, .f32⟩
  | 41 => ⟨S1024x1, .f32⟩
  | 42 => ⟨S1024x512, .f32⟩
  | 43 => ⟨S1024x512, .f32⟩
  | 44 => ⟨S_, .f32⟩
  | 45 => ⟨S1024x1, .f32⟩
  | 46 => ⟨S1024x1, .f32⟩
  | 47 => ⟨S1024x1, .f32⟩
  | 48 => ⟨S1024x512, .f32⟩
  | 49 => ⟨S1024x512, .f32⟩
  | 50 => ⟨S1x512, .f32⟩
  | 51 => ⟨S1024x512, .f32⟩
  | 52 => ⟨S1024x512, .f32⟩
  | 53 => ⟨S1x512, .f32⟩
  | 54 => ⟨S1024x512, .f32⟩
  | 55 => ⟨S1024x512, .f32⟩
  | _ => ⟨S1024x512, .f32⟩

abbrev hbmTy (i : Nat) : BufTy := match i / 128 with
  | 0 => hbmTy0_0 i
  | 1 => hbmTy0_1 i
  | _ => ⟨S1024x512, .f32⟩

abbrev bufTy : (tb : Table) → Fin (tcTables nBuf tb) → BufTy
  | .hbm, ⟨i, _⟩ => hbmTy i
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_call0_cst : Ref sig .tc := ⟨.hbm, 25, rfl⟩
abbrev main_call0_v0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_call1_cst : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_v10 : Ref sig .tc := ⟨.hbm, 45, rfl⟩
abbrev main_v11 : Ref sig .tc := ⟨.hbm, 46, rfl⟩
abbrev main_cst : Ref sig .tc := ⟨.hbm, 47, rfl⟩
abbrev main_v12 : Ref sig .tc := ⟨.hbm, 48, rfl⟩
abbrev main_v13 : Ref sig .tc := ⟨.hbm, 49, rfl⟩
abbrev main_cst_0 : Ref sig .tc := ⟨.hbm, 50, rfl⟩
abbrev main_v14 : Ref sig .tc := ⟨.hbm, 51, rfl⟩
abbrev main_v15 : Ref sig .tc := ⟨.hbm, 52, rfl⟩
abbrev main_c : Ref sig .tc := ⟨.hbm, 53, rfl⟩
abbrev main_call2_cst : Ref sig .tc := ⟨.hbm, 54, rfl⟩
abbrev main_call2_v0 : Ref sig .tc := ⟨.hbm, 55, rfl⟩
abbrev main_call2_v1 : Ref sig .tc := ⟨.hbm, 56, rfl⟩
abbrev main_call2_cst_0 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_v6 : Ref sig .tc := ⟨.hbm, 62, rfl⟩
abbrev main_call2_v7 : Ref sig .tc := ⟨.hbm, 63, rfl⟩
abbrev main_call2_cst_1 : Ref sig .tc := ⟨.hbm, 64, rfl⟩
abbrev main_call2_v8 : Ref sig .tc := ⟨.hbm, 65, rfl⟩
abbrev main_call2_cst_2 : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_call2_v12 : Ref sig .tc := ⟨.hbm, 70, rfl⟩
abbrev main_call2_cst_3 : Ref sig .tc := ⟨.hbm, 71, rfl⟩
abbrev main_call2_v13 : Ref sig .tc := ⟨.hbm, 72, rfl⟩
abbrev main_call2_cst_4 : Ref sig .tc := ⟨.hbm, 73, rfl⟩
abbrev main_call2_call0_v0 : Ref sig .tc := ⟨.hbm, 74, rfl⟩
abbrev main_call2_call0_v1 : Ref sig .tc := ⟨.hbm, 75, rfl⟩
abbrev main_v16 : Ref sig .tc := ⟨.hbm, 76, rfl⟩
abbrev main_v17 : Ref sig .tc := ⟨.hbm, 77, rfl⟩
abbrev main_v18 : Ref sig .tc := ⟨.hbm, 78, rfl⟩
abbrev main_cst_1 : Ref sig .tc := ⟨.hbm, 79, rfl⟩
abbrev main_v19 : Ref sig .tc := ⟨.hbm, 80, rfl⟩
abbrev main_v20 : Ref sig .tc := ⟨.hbm, 81, rfl⟩
abbrev main_v21 : Ref sig .tc := ⟨.hbm, 82, rfl⟩
abbrev main_v22 : Ref sig .tc := ⟨.hbm, 83, rfl⟩
abbrev main_v23 : Ref sig .tc := ⟨.hbm, 84, rfl⟩
abbrev main_v24 : Ref sig .tc := ⟨.hbm, 85, rfl⟩
abbrev main_v25 : Ref sig .tc := ⟨.hbm, 86, rfl⟩
abbrev main_v26 : Ref sig .tc := ⟨.hbm, 87, rfl⟩
abbrev main_v27 : Ref sig .tc := ⟨.hbm, 88, rfl⟩
abbrev main_v28 : Ref sig .tc := ⟨.hbm, 89, rfl⟩
abbrev main_v29 : Ref sig .tc := ⟨.hbm, 90, rfl⟩
abbrev main_v30 : Ref sig .tc := ⟨.hbm, 91, rfl⟩
abbrev main_v31 : Ref sig .tc := ⟨.hbm, 92, rfl⟩
abbrev main_v32 : Ref sig .tc := ⟨.hbm, 93, rfl⟩
abbrev main_v33 : Ref sig .tc := ⟨.hbm, 94, rfl⟩
abbrev main_v34 : Ref sig .tc := ⟨.hbm, 95, rfl⟩
abbrev main_v35 : Ref sig .tc := ⟨.hbm, 96, rfl⟩
abbrev main_v36 : Ref sig .tc := ⟨.hbm, 97, rfl⟩
abbrev main_v37 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_cst_2 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_cst_3 : Ref sig .tc := ⟨.hbm, 108, rfl⟩
abbrev main_call3_v0 : Ref sig .tc := ⟨.hbm, 109, rfl⟩
abbrev main_call3_v1 : Ref sig .tc := ⟨.hbm, 110, rfl⟩
abbrev main_v46 : Ref sig .tc := ⟨.hbm, 111, rfl⟩
abbrev main_cst_4 : Ref sig .tc := ⟨.hbm, 112, rfl⟩
abbrev main_v47 : Ref sig .tc := ⟨.hbm, 113, rfl⟩
abbrev main_cst_5 : Ref sig .tc := ⟨.hbm, 114, rfl⟩
abbrev main_v48 : Ref sig .tc := ⟨.hbm, 115, rfl⟩
abbrev main_v49 : Ref sig .tc := ⟨.hbm, 116, rfl⟩
abbrev main_v50 : Ref sig .tc := ⟨.hbm, 117, rfl⟩
abbrev main_v51 : Ref sig .tc := ⟨.hbm, 118, rfl⟩
abbrev main_v52 : Ref sig .tc := ⟨.hbm, 119, rfl⟩
abbrev main_v53 : Ref sig .tc := ⟨.hbm, 120, rfl⟩
abbrev main_cst_6 : Ref sig .tc := ⟨.hbm, 121, rfl⟩
abbrev main_v54 : Ref sig .tc := ⟨.hbm, 122, rfl⟩
abbrev main_v55 : Ref sig .tc := ⟨.hbm, 123, rfl⟩
abbrev main_v56 : Ref sig .tc := ⟨.hbm, 124, rfl⟩
abbrev main_v57 : Ref sig .tc := ⟨.hbm, 125, rfl⟩
abbrev main_v58 : Ref sig .tc := ⟨.hbm, 126, rfl⟩
abbrev main_cst_7 : Ref sig .tc := ⟨.hbm, 127, rfl⟩
abbrev main_v59 : Ref sig .tc := ⟨.hbm, 128, rfl⟩
abbrev main_v60 : Ref sig .tc := ⟨.hbm, 129, rfl⟩
abbrev main_cst_8 : Ref sig .tc := ⟨.hbm, 130, rfl⟩
abbrev main_v61 : Ref sig .tc := ⟨.hbm, 131, rfl⟩
abbrev main_v62 : Ref sig .tc := ⟨.hbm, 132, rfl⟩
abbrev main_v63 : Ref sig .tc := ⟨.hbm, 133, rfl⟩
abbrev main_v64 : Ref sig .tc := ⟨.hbm, 134, rfl⟩
abbrev main_v65 : Ref sig .tc := ⟨.hbm, 135, rfl⟩
abbrev main_v66 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_cst_9 : Ref sig .tc := ⟨.hbm, 140, rfl⟩
abbrev main_v70 : Ref sig .tc := ⟨.hbm, 141, rfl⟩
abbrev main_v71 : Ref sig .tc := ⟨.hbm, 142, rfl⟩
abbrev main_cst_10 : Ref sig .tc := ⟨.hbm, 143, rfl⟩
abbrev main_v72 : Ref sig .tc := ⟨.hbm, 144, rfl⟩
abbrev main_v73 : Ref sig .tc := ⟨.hbm, 145, rfl⟩
abbrev main_c_11 : Ref sig .tc := ⟨.hbm, 146, rfl⟩
abbrev main_call4_cst : Ref sig .tc := ⟨.hbm, 147, rfl⟩
abbrev main_call4_v0 : Ref sig .tc := ⟨.hbm, 148, rfl⟩
abbrev main_call4_v1 : Ref sig .tc := ⟨.hbm, 149, rfl⟩
abbrev main_call4_cst_0 : Ref sig .tc := ⟨.hbm, 150, rfl⟩
abbrev main_call4_v2 : Ref sig .tc := ⟨.hbm, 151, rfl⟩
abbrev main_call4_v3 : Ref sig .tc := ⟨.hbm, 152, rfl⟩
abbrev main_call4_v4 : Ref sig .tc := ⟨.hbm, 153, rfl⟩
abbrev main_call4_v5 : Ref sig .tc := ⟨.hbm, 154, rfl⟩
abbrev main_call4_v6 : Ref sig .tc := ⟨.hbm, 155, rfl⟩
abbrev main_call4_v7 : Ref sig .tc := ⟨.hbm, 156, rfl⟩
abbrev main_call4_cst_1 : Ref sig .tc := ⟨.hbm, 157, rfl⟩
abbrev main_call4_v8 : Ref sig .tc := ⟨.hbm, 158, rfl⟩
abbrev main_call4_cst_2 : Ref sig .tc := ⟨.hbm, 159, rfl⟩
abbrev main_call4_v9 : Ref sig .tc := ⟨.hbm, 160, rfl⟩
abbrev main_call4_v10 : Ref sig .tc := ⟨.hbm, 161, rfl⟩
abbrev main_call4_v11 : Ref sig .tc := ⟨.hbm, 162, rfl⟩
abbrev main_call4_v12 : Ref sig .tc := ⟨.hbm, 163, rfl⟩
abbrev main_call4_cst_3 : Ref sig .tc := ⟨.hbm, 164, rfl⟩
abbrev main_call4_v13 : Ref sig .tc := ⟨.hbm, 165, rfl⟩
abbrev main_call4_cst_4 : Ref sig .tc := ⟨.hbm, 166, rfl⟩
abbrev main_call4_call0_v0 : Ref sig .tc := ⟨.hbm, 167, rfl⟩
abbrev main_call4_call0_v1 : Ref sig .tc := ⟨.hbm, 168, rfl⟩
abbrev main_v74 : Ref sig .tc := ⟨.hbm, 169, rfl⟩
abbrev main_v75 : Ref sig .tc := ⟨.hbm, 170, rfl⟩
abbrev main_v76 : Ref sig .tc := ⟨.hbm, 171, rfl⟩
abbrev main_cst_12 : Ref sig .tc := ⟨.hbm, 172, rfl⟩
abbrev main_v77 : Ref sig .tc := ⟨.hbm, 173, rfl⟩
abbrev main_v78 : Ref sig .tc := ⟨.hbm, 174, rfl⟩
abbrev main_v79 : Ref sig .tc := ⟨.hbm, 175, rfl⟩
abbrev main_v80 : Ref sig .tc := ⟨.hbm, 176, rfl⟩
abbrev main_v81 : Ref sig .tc := ⟨.hbm, 177, rfl⟩
abbrev main_v82 : Ref sig .tc := ⟨.hbm, 178, rfl⟩
abbrev main_v83 : Ref sig .tc := ⟨.hbm, 179, rfl⟩
abbrev main_v84 : Ref sig .tc := ⟨.hbm, 180, rfl⟩
abbrev main_v85 : Ref sig .tc := ⟨.hbm, 181, rfl⟩
abbrev main_v86 : Ref sig .tc := ⟨.hbm, 182, rfl⟩
abbrev main_v87 : Ref sig .tc := ⟨.hbm, 183, rfl⟩

abbrev nD : Nat := 1
abbrev τ : Topo := Topo.v7x

variable {F : FTy → Type} [FloatOps F]
-- ==== Proof.Model.lean ====
/-
  WHAT THE TWO PROGRAMS COMPUTE FOR ONE BATCH ROW, as functions of extended reals: the kernel's arrangement
  (`kernelRow`) and the reference's (`referenceRow`). The value modules show that each program's result, read at an
  index, is the function of its side; `Equation.lean` shows that the two functions are equal.

  A memory has 64 slots, a key and a value have 512 entries each, the priority network has 64 hidden units.
-/
module

public import Idealize.ShloMosaic.PureOps.Ideal

@[expose] public section

noncomputable section

namespace Cert.Retrieval

open Idealize.ShloMosaic

/-- The real number 512 as both programs write it: the length of a row. -/
def len : EReal := Ideal.ofBits .f32 0x44000000#32

/-- The constant that both layer normalisations add to the variance (about 1e-5). -/
def epsLN : EReal := Ideal.ofBits .f32 0x3727C5AC#32

/-- The constant added to the sum of the weights before the last division (about 1e-8). -/
def epsW : EReal := Ideal.ofBits .f32 0x322BCC77#32

/-- The mean of a row of 512 numbers. -/
def mean (x : Fin 512 → EReal) : EReal := Ideal.div (∑ i, x i) len

/-- A row minus its mean. -/
def dev (x : Fin 512 → EReal) (j : Fin 512) : EReal := x j - mean x

/-- The variance of a row of 512 numbers: the mean of the squared deviations. -/
def variance (x : Fin 512 → EReal) : EReal := Ideal.div (∑ i, dev x i * dev x i) len

/-- Layer normalisation as the kernel writes it: a product with the reciprocal square root. -/
def normK (x g b : Fin 512 → EReal) (j : Fin 512) : EReal :=
  dev x j * Ideal.rsqrt (variance x + epsLN) * g j + b j

/-- Layer normalisation as the reference writes it: a quotient by the square root. -/
def normR (x g b : Fin 512 → EReal) (j : Fin 512) : EReal :=
  Ideal.div (dev x j) (Ideal.sqrt (variance x + epsLN)) * g j + b j

/-- `log (1 + exp x)` in the form both programs compute: `max x 0 + log1p (exp (-|x|))`. -/
def softplus (x : EReal) : EReal := max x 0 + Ideal.log1p (Ideal.exp (-max x (-x)))

/-- The weights of the whole network. `p1k` and `p1v` are the rows of the priority network's first matrix that meet the
    key and the value. -/
structure Params where
  /-- query projection -/
  wq : Fin 512 → Fin 512 → EReal
  /-- its bias -/
  bq : Fin 512 → EReal
  /-- key projection -/
  wk : Fin 512 → Fin 512 → EReal
  /-- its bias -/
  bk : Fin 512 → EReal
  /-- value projection -/
  wv : Fin 512 → Fin 512 → EReal
  /-- its bias -/
  bv : Fin 512 → EReal
  /-- output projection -/
  wo : Fin 512 → Fin 512 → EReal
  /-- its bias -/
  bo : Fin 512 → EReal
  /-- gain of the query's normalisation -/
  gq : Fin 512 → EReal
  /-- bias of the query's normalisation -/
  cq : Fin 512 → EReal
  /-- gain of the output's normalisation -/
  go : Fin 512 → EReal
  /-- bias of the output's normalisation -/
  co : Fin 512 → EReal
  /-- first matrix of the priority network, rows of the key -/
  p1k : Fin 512 → Fin 64 → EReal
  /-- first matrix of the priority network, rows of the value -/
  p1v : Fin 512 → Fin 64 → EReal
  /-- its bias -/
  p1b : Fin 64 → EReal
  /-- second matrix of the priority network (one column) -/
  p2 : Fin 64 → EReal
  /-- its bias -/
  p2b : EReal

/-- One batch row: a query and a memory of 64 keys, values and mask bits. -/
structure Row where
  /-- the query -/
  query : Fin 512 → EReal
  /-- the stored keys -/
  key : Fin 64 → Fin 512 → EReal
  /-- the stored values -/
  val : Fin 64 → Fin 512 → EReal
  /-- which slots take part -/
  keep : Fin 64 → Prop

variable (P : Params) (R : Row)

/-! ## Priorities (the same function on both sides) -/

/-- The priority network's output before the softplus, of memory slot `s`. -/
def logit (s : Fin 64) : EReal :=
  (∑ h, max ((∑ i, R.key s i * P.p1k i h) + (∑ i, R.val s i * P.p1v i h) + P.p1b h) 0 * P.p2 h) + P.p2b

/-- The priority of memory slot `s`. -/
def prio (s : Fin 64) : EReal := softplus (logit P R s)

/-! ## Softmax weights times priorities, renormalised -/

/-- The greatest of 64 scores. -/
def peak (s : Fin 64 → EReal) : EReal := Finset.univ.fold max ⊥ s

/-- The exponential of a score minus the greatest score. -/
def expo (s : Fin 64 → EReal) (i : Fin 64) : EReal := Ideal.exp (s i - peak s)

/-- The kernel's numerators: exponential times priority. -/
def num (s p : Fin 64 → EReal) (i : Fin 64) : EReal := expo s i * p i

/-- The kernel's one division: the reciprocal of the sum of the numerators plus the small constant times the sum of the
    exponentials. -/
def recip (s p : Fin 64 → EReal) : EReal := Ideal.div 1 ((∑ i, num s p i) + epsW * ∑ i, expo s i)

/-- The kernel's weight of slot `i`. -/
def weightK (s p : Fin 64 → EReal) (i : Fin 64) : EReal := num s p i * recip s p

/-- What the kernel takes for the sum of its weights. -/
def totalK (s p : Fin 64 → EReal) : EReal := (∑ i, num s p i) * recip s p

/-- The reference's softmax weight times the priority. -/
def soft (s p : Fin 64 → EReal) (i : Fin 64) : EReal := Ideal.div (expo s i) (∑ k, expo s k) * p i

/-- The reference's weight of slot `i`. -/
def weightR (s p : Fin 64 → EReal) (i : Fin 64) : EReal := Ideal.div (soft s p i) ((∑ k, soft s p k) + epsW)

/-! ## The kernel's row -/

/-- The projected query. -/
def queryK (e : Fin 512) : EReal := (∑ i, normK R.query P.gq P.cq i * P.wq i e) + P.bq e

/-- The query carried through the key projection. -/
def pullK (d : Fin 512) : EReal := ∑ e, queryK P R e * P.wk d e

open Classical in
/-- The kernel's scores: key times carried query, times `1/√512`; `-∞` in the slots masked out. -/
def scoreK (s : Fin 64) : EReal :=
  if R.keep s then (∑ d, R.key s d * pullK P R d) * (((Real.sqrt 512)⁻¹ : ℝ) : EReal) else ⊥

/-- The weighted sum of the stored values, before the value projection. -/
def mixK (d : Fin 512) : EReal := ∑ s, R.val s d * weightK (scoreK P R) (prio P R) s

/-- What the kernel retrieves: the mixed value projected, plus the weights' sum times the bias. -/
def readK (e : Fin 512) : EReal :=
  (∑ d, mixK P R d * P.wv d e) + totalK (scoreK P R) (prio P R) * P.bv e

/-- The kernel's result row. -/
def kernelRow (j : Fin 512) : EReal :=
  normK (fun j => (∑ e, readK P R e * P.wo e j) + P.bo j) P.go P.co j

/-! ## The reference's row -/

/-- The projected query. -/
def queryR (e : Fin 512) : EReal := (∑ i, normR R.query P.gq P.cq i * P.wq i e) + P.bq e

/-- The projected key of slot `s`. -/
def keyR (s : Fin 64) (e : Fin 512) : EReal := (∑ d, R.key s d * P.wk d e) + P.bk e

/-- The projected value of slot `s`. -/
def valR (s : Fin 64) (e : Fin 512) : EReal := (∑ d, R.val s d * P.wv d e) + P.bv e

open Classical in
/-- The reference's scores: projected query times projected key, divided by `√512`; `-∞` in the slots masked out. -/
def scoreR (s : Fin 64) : EReal :=
  if R.keep s then Ideal.div (∑ e, queryR P R e * keyR P R s e) (Ideal.sqrt len) else ⊥

/-- What the reference retrieves: the weighted sum of the projected values. -/
def readR (e : Fin 512) : EReal := ∑ s, weightR (scoreR P R) (prio P R) s * valR P R s e

/-- The reference's result row. -/
def referenceRow (j : Fin 512) : EReal :=
  normR (fun j => (∑ e, readR P R e * P.wo e j) + P.bo j) P.go P.co j

end Cert.Retrieval

end
-- ==== Proof.Arrays.lean ====
/-
  THE ARGUMENT ARRAYS AS MODEL DATA: the network's weights and one batch row, read off the programs' twenty argument
  arrays (both programs take the same twenty, in the same order).
-/
module

public import proofs.«01_k».proof.Proof.Model
public import Idealize.ShloMosaic.Lib.Pointwise

@[expose] public section

noncomputable section

namespace Cert.Retrieval

open Idealize.ShloMosaic

/-- A float array of rank 1. -/
abbrev A1 (n : Nat) : Type := FVec Ideal ⟨1, ![n]⟩ .f32
/-- A float array of rank 2. -/
abbrev A2 (n k : Nat) : Type := FVec Ideal ⟨2, ![n, k]⟩ .f32
/-- A float array of rank 3. -/
abbrev A3 (n k l : Nat) : Type := FVec Ideal ⟨3, ![n, k, l]⟩ .f32

/-- The twenty argument arrays. -/
structure Args where
  /-- query -/
  a0 : A2 1024 512
  /-- stored keys -/
  a1 : A3 1024 64 512
  /-- stored values -/
  a2 : A3 1024 64 512
  /-- mask bits -/
  a3 : IVec ⟨2, ![1024, 64]⟩ 1
  /-- query projection -/
  a4 : A2 512 512
  /-- its bias -/
  a5 : A1 512
  /-- key projection -/
  a6 : A2 512 512
  /-- its bias -/
  a7 : A1 512
  /-- value projection -/
  a8 : A2 512 512
  /-- its bias -/
  a9 : A1 512
  /-- output projection -/
  a10 : A2 512 512
  /-- its bias -/
  a11 : A1 512
  /-- gain of the query's normalisation -/
  a12 : A1 512
  /-- bias of the query's normalisation -/
  a13 : A1 512
  /-- gain of the output's normalisation -/
  a14 : A1 512
  /-- bias of the output's normalisation -/
  a15 : A1 512
  /-- first matrix of the priority network -/
  a16 : A2 1024 64
  /-- its bias -/
  a17 : A1 64
  /-- second matrix of the priority network -/
  a18 : A2 64 1
  /-- its bias -/
  a19 : A1 1

/-- The network's weights, entry by entry. -/
def Args.params (A : Args) : Params where
  wq i e := A.a4 (ix2 i e)
  bq e := A.a5 (ix1 e)
  wk i e := A.a6 (ix2 i e)
  bk e := A.a7 (ix1 e)
  wv i e := A.a8 (ix2 i e)
  bv e := A.a9 (ix1 e)
  wo i e := A.a10 (ix2 i e)
  bo e := A.a11 (ix1 e)
  gq e := A.a12 (ix1 e)
  cq e := A.a13 (ix1 e)
  go e := A.a14 (ix1 e)
  co e := A.a15 (ix1 e)
  p1k i h := A.a16 (ix2 ⟨i, by omega⟩ h)
  p1v i h := A.a16 (ix2 ⟨512 + i, by omega⟩ h)
  p1b h := A.a17 (ix1 h)
  p2 h := A.a18 (ix2 h 0)
  p2b := A.a19 (ix1 0)

/-- Batch row `b`. -/
def Args.row (A : Args) (b : Fin 1024) : Row where
  query e := A.a0 (ix2 b e)
  key s e := A.a1 (ix3 b s e)
  val s e := A.a2 (ix3 b s e)
  keep s := A.a3 (ix2 b s) = 1#1

/-- The array of all the reference's rows. -/
def resultOf (A : Args) : A2 1024 512 := fun i => referenceRow A.params (A.row (i 0)) (i 1)

/-- The array of all the kernel's rows. -/
def kernelOf (A : Args) : A2 1024 512 := fun i => kernelRow A.params (A.row (i 0)) (i 1)

end Cert.Retrieval

end
-- ==== Proof.Constants.lean ====
/-
  THE CONSTANTS of both programs as extended reals, and the two constants that carry a name.
-/
module

public import proofs.«01_k».proof.Proof.Model
public import proofs.«01_k».proof.Proof.Gen.KernelIdeal.Skeleton

@[expose] public section

noncomputable section

namespace Cert.Retrieval

open Idealize.ShloMosaic

/-- `len` is the real number 512. -/
theorem len_eq : len = ((512 : ℝ) : EReal) := by
  unfold len
  simp [Ideal.ofBits, Ideal.ieee, -EReal.coe_mul]
  norm_num

/-- The constant of the layer normalisations is a positive real. -/
theorem epsLN_real : ∃ e : ℝ, 0 < e ∧ epsLN = (e : EReal) := by
  unfold epsLN
  simp [Ideal.ofBits, Ideal.ieee, -EReal.coe_mul]

/-- The constant of the weights is a positive real. -/
theorem epsW_real : ∃ e : ℝ, 0 < e ∧ epsW = (e : EReal) := by
  unfold epsW
  simp [Ideal.ofBits, Ideal.ieee, -EReal.coe_mul]

/-- The word of `-∞`. -/
theorem ofBits_bot : Ideal.ofBits .f32 0xFF800000#32 = ⊥ := by simp [Ideal.ofBits, Ideal.ieee]

/-- The word of `+∞`. -/
theorem ofBits_top : Ideal.ofBits .f32 0x7F800000#32 = ⊤ := by simp [Ideal.ofBits, Ideal.ieee]

/-- The named scale is `1/√512`. -/
theorem named_scale : Named.named (F := Ideal) Cert.KernelIdeal.κ "inv_sqrt_d" (φ := .f32) 0x3D3504F3#32
    = (((Real.sqrt 512)⁻¹ : ℝ) : EReal) := by
  rfl

/-- The named mask value is `-∞`. -/
theorem named_mask : Named.named (F := Ideal) Cert.KernelIdeal.κ "mask" (φ := .f32) 0xCE6E6B28#32 = (⊥ : EReal) := by
  rfl

end Cert.Retrieval

end
-- ==== Proof.Payload.lean ====
/-
  THE KERNEL'S BODY AT AN INDEX: each of the five vector expressions the body computes on a block of 64 batch rows, read
  at a row and a column, is the function of `Model.lean` of that row's data.
-/
module

public import proofs.«01_k».proof.Proof.Gen.KernelIdeal.Skeleton
public import proofs.«01_k».proof.Proof.Model
public import proofs.«01_k».proof.Proof.Constants
public import Idealize.ShloMosaic.Lib.Pointwise

@[expose] public section

set_option maxRecDepth 16384

noncomputable section

namespace Cert.Retrieval.Payload

open Idealize.ShloMosaic Idealize.ShloMosaic.TcCoe Idealize.SL.Sem
open Cert.KernelIdeal Cert.KernelIdeal.Gen

/-- The last step of the body: the output bias and the output's layer normalisation. -/
theorem pay1 (x : FVec Ideal S64x512 .f32) (bo go co : FVec Ideal S1x512 .f32) (r : Fin 64) (j : Fin 512) :
    k0_pay1 (F := Ideal) x bo go co (ix2 r j)
      = normK (fun k => x (ix2 r k) + bo (ix2 0 k)) (fun k => go (ix2 0 k)) (fun k => co (ix2 0 k)) j := by
  pointwise [k0_pay1]
  rfl

/-- The query: normalised, projected, and carried through the key projection. -/
theorem pay2 (q : FVec Ideal S64x512 .f32) (g b : FVec Ideal S1x512 .f32) (wq : FVec Ideal S512x512 .f32)
    (bq : FVec Ideal S1x512 .f32) (wk : FVec Ideal S512x512 .f32) (r : Fin 64) (d : Fin 512) :
    k0_pay2 (F := Ideal) q g b wq bq wk (ix2 r d)
      = ∑ e, ((∑ i, normK (fun k => q (ix2 r k)) (fun k => g (ix2 0 k)) (fun k => b (ix2 0 k)) i * wq (ix2 i e))
          + bq (ix2 0 e)) * wk (ix2 d e) := by
  pointwise [k0_pay2]
  rfl

/-- The priorities of the 64 slots of every row. -/
theorem pay3 (k v : FVec Ideal S64x64x512 .f32) (p1k p1v : FVec Ideal S512x64 .f32) (p1b p2 : FVec Ideal S1x64 .f32)
    (p2b : FVec Ideal S1x1 .f32) (r s : Fin 64) :
    k0_pay3 (F := Ideal) k v p1k p1v p1b p2 p2b (ix2 r s)
      = softplus ((∑ h, max ((∑ i, k (ix3 r s i) * p1k (ix2 i h)) + (∑ i, v (ix3 r s i) * p1v (ix2 i h)) + p1b (ix2 0 h)) 0
          * p2 (ix2 0 h)) + p2b (ix2 0 0)) := by
  pointwise [k0_pay3]
  rw [zero_sub]
  rfl

/-- The dot products of every stored key with the carried query. -/
theorem pay4 (p : FVec Ideal S64x512 .f32) (k : FVec Ideal S64x64x512 .f32) (r s : Fin 64) :
    k0_pay4 (F := Ideal) p k (ix2 r s) = ∑ d, k (ix3 r s d) * p (ix2 r d) := by
  pointwise [k0_pay4]

/-- A row of the kernel's masked scores, from the dot products and the mask as numbers. -/
def masked (sc mk : FVec Ideal S64x64 .f32) (r s : Fin 64) : EReal :=
  if 0 < (mk (ix2 r s) : EReal) then sc (ix2 r s) * (((Real.sqrt 512)⁻¹ : ℝ) : EReal) else ⊥

/-- From the priorities, the dot products and the mask to the output projection. -/
theorem pay5 (v : FVec Ideal S64x64x512 .f32) (pr sc mk : FVec Ideal S64x64 .f32) (wv : FVec Ideal S512x512 .f32)
    (bv : FVec Ideal S1x512 .f32) (wo : FVec Ideal S512x512 .f32) (r : Fin 64) (j : Fin 512) :
    k0_pay5 (F := Ideal) v pr sc mk wv bv wo (ix2 r j)
      = ∑ e, ((∑ d, (∑ s, v (ix3 r s d) * weightK (masked sc mk r) (fun s => pr (ix2 r s)) s) * wv (ix2 d e))
          + totalK (masked sc mk r) (fun s => pr (ix2 r s)) * bv (ix2 0 e)) * wo (ix2 e j) := by
  pointwise [k0_pay5, named_scale, named_mask, ofBits_bot]
  rfl

end Cert.Retrieval.Payload

end
-- ==== Proof.KernelValue.lean ====
/-
  WHAT THE KERNEL'S RESULT ARRAY HOLDS: every run ends with the array of the model's kernel rows, `kernelOf`, of the argument
  arrays, and with the arguments unchanged.

  The grid has 16 points; point `t` works on batch rows 64t … 64t + 63. The first part reads each input block at an index as
  an entry of an argument array; the second puts the body's five expressions together into a row of the model; the third
  covers the result array by the 16 blocks.
-/
module

public import proofs.«01_k».proof.Proof.Gen.KernelIdeal.Value
public import proofs.«01_k».proof.Proof.Arrays
public import proofs.«01_k».proof.Proof.Payload
public import Idealize.ShloMosaic.Lib.Claim
public import Idealize.ShloMosaic.Lib.Pipeline.ValueKit

@[expose] public section

set_option maxRecDepth 16384

noncomputable section

namespace Cert.Retrieval.KernelValue

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-- The twenty argument arrays of a launch. -/
def args : Args where
  a0 := m ((c : Thread nD τ).loc main_arg0)
  a1 := m ((c : Thread nD τ).loc main_arg1)
  a2 := m ((c : Thread nD τ).loc main_arg2)
  a3 := m ((c : Thread nD τ).loc main_arg3)
  a4 := m ((c : Thread nD τ).loc main_arg4)
  a5 := m ((c : Thread nD τ).loc main_arg5)
  a6 := m ((c : Thread nD τ).loc main_arg6)
  a7 := m ((c : Thread nD τ).loc main_arg7)
  a8 := m ((c : Thread nD τ).loc main_arg8)
  a9 := m ((c : Thread nD τ).loc main_arg9)
  a10 := m ((c : Thread nD τ).loc main_arg10)
  a11 := m ((c : Thread nD τ).loc main_arg11)
  a12 := m ((c : Thread nD τ).loc main_arg12)
  a13 := m ((c : Thread nD τ).loc main_arg13)
  a14 := m ((c : Thread nD τ).loc main_arg14)
  a15 := m ((c : Thread nD τ).loc main_arg15)
  a16 := m ((c : Thread nD τ).loc main_arg16)
  a17 := m ((c : Thread nD τ).loc main_arg17)
  a18 := m ((c : Thread nD τ).loc main_arg18)
  a19 := m ((c : Thread nD τ).loc main_arg19)

/-- The batch row that row `r` of point `t`'s blocks is. -/
def place (t : Fin cfg0.N) (r : Fin 64) : Fin 1024 := ⟨64 * t.val + r.val, by have := t.isLt; have : cfg0.N = 16 := rfl; omega⟩

/-- Where the windows stand: the four batched inputs and the result move with the point along the batch axis. -/
theorem idx : ∀ t : Fin cfg0.N, win0_0.index t = ![t.val, 0] ∧ win0_1.index t = ![t.val, 0, 0] ∧ win0_2.index t = ![t.val, 0, 0]
    ∧ win0_3.index t = ![t.val, 0] ∧ win0_20.index t = ![t.val, 0] :=
  (by decide +kernel : ∀ t : Fin grid0.N, win0_0.index t = ![t.val, 0] ∧ win0_1.index t = ![t.val, 0, 0] ∧ win0_2.index t = ![t.val, 0, 0]
    ∧ win0_3.index t = ![t.val, 0] ∧ win0_20.index t = ![t.val, 0])

/-- The sixteen weight windows stand still. -/
theorem idxW : ∀ t : Fin cfg0.N, win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0]
    ∧ win0_15.index t = ![0, 0] ∧ win0_16.index t = ![0, 0] ∧ win0_17.index t = ![0, 0] ∧ win0_18.index t = ![0, 0]
    ∧ win0_19.index t = ![0, 0] :=
  (by decide +kernel : ∀ t : Fin grid0.N, win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0]
    ∧ win0_15.index t = ![0, 0] ∧ win0_16.index t = ![0, 0] ∧ win0_17.index t = ![0, 0] ∧ win0_18.index t = ![0, 0]
    ∧ win0_19.index t = ![0, 0])

variable (t : Fin cfg0.N)

/-! ## The input blocks at an index -/

/-- The query's block. -/
theorem query_at (r : Fin 64) (k : Fin 512) :
    (iblk m c 0 t : FVec Ideal S64x512 .f32) (ix2 r k) = (args m c).a0 (ix2 (place t r) k) := by
  unfold args place
  blk_ext [iblk, V, idx t]

/-- The keys' block. -/
theorem key_at (r s : Fin 64) (k : Fin 512) :
    (iblk m c 1 t : FVec Ideal S64x64x512 .f32) (ix3 r s k) = (args m c).a1 (ix3 (place t r) s k) := by
  unfold args place
  blk_ext [iblk, V, idx t]

/-- The values' block. -/
theorem val_at (r s : Fin 64) (k : Fin 512) :
    (iblk m c 2 t : FVec Ideal S64x64x512 .f32) (ix3 r s k) = (args m c).a2 (ix3 (place t r) s k) := by
  unfold args place
  blk_ext [iblk, V, idx t]

/-- The array the mask's window reads: every bit as a number. -/
theorem mask_array : V m c main_call0_v0
    = (uitofp .f32 (m ((c : Thread nD τ).loc main_arg3) : IVec S1024x64 1) : FVec Ideal S1024x64 .f32) := by
  entry_read
  rfl

/-- The mask's block. -/
theorem mask_at (r s : Fin 64) :
    (iblk m c 3 t : FVec Ideal S64x64 .f32) (ix2 r s) = FloatOps.uitofp (F := Ideal) .f32 ((args m c).a3 (ix2 (place t r) s)) := by
  have h : (iblk m c 3 t : FVec Ideal S64x64 .f32) (ix2 r s)
      = (V m c main_call0_v0 : FVec Ideal S1024x64 .f32) (ix2 (place t r) s) := by
    unfold place
    blk_ext [iblk, idx t]
  rw [h, mask_array]
  rfl

/-- The weight `wq`. -/
theorem wq_at (i j : Fin 512) :
    (iblk m c 4 t : FVec Ideal S512x512 .f32) (ix2 i j) = (args m c).a4 (ix2 i j) := by
  unfold args
  blk_ext [iblk, V, idxW t]

/-- The weight `wk`. -/
theorem wk_at (i j : Fin 512) :
    (iblk m c 5 t : FVec Ideal S512x512 .f32) (ix2 i j) = (args m c).a6 (ix2 i j) := by
  unfold args
  blk_ext [iblk, V, idxW t]

/-- The weight `wv`. -/
theorem wv_at (i j : Fin 512) :
    (iblk m c 6 t : FVec Ideal S512x512 .f32) (ix2 i j) = (args m c).a8 (ix2 i j) := by
  unfold args
  blk_ext [iblk, V, idxW t]

/-- The weight `wo`. -/
theorem wo_at (i j : Fin 512) :
    (iblk m c 7 t : FVec Ideal S512x512 .f32) (ix2 i j) = (args m c).a10 (ix2 i j) := by
  unfold args
  blk_ext [iblk, V, idxW t]

/-- The weight `bq`. -/
theorem bq_at (k : Fin 512) : (iblk m c 8 t : FVec Ideal S1x512 .f32) (ix2 0 k) = (args m c).a5 (ix1 k) := by
  unfold args
  blk_point [iblk, idxW t]

/-- The weight `bv`. -/
theorem bv_at (k : Fin 512) : (iblk m c 9 t : FVec Ideal S1x512 .f32) (ix2 0 k) = (args m c).a9 (ix1 k) := by
  unfold args
  blk_point [iblk, idxW t]

/-- The weight `bo`. -/
theorem bo_at (k : Fin 512) : (iblk m c 10 t : FVec Ideal S1x512 .f32) (ix2 0 k) = (args m c).a11 (ix1 k) := by
  unfold args
  blk_point [iblk, idxW t]

/-- The weight `gq`. -/
theorem gq_at (k : Fin 512) : (iblk m c 11 t : FVec Ideal S1x512 .f32) (ix2 0 k) = (args m c).a12 (ix1 k) := by
  unfold args
  blk_point [iblk, idxW t]

/-- The weight `cq`. -/
theorem cq_at (k : Fin 512) : (iblk m c 12 t : FVec Ideal S1x512 .f32) (ix2 0 k) = (args m c).a13 (ix1 k) := by
  unfold args
  blk_point [iblk, idxW t]

/-- The weight `go`. -/
theorem go_at (k : Fin 512) : (iblk m c 13 t : FVec Ideal S1x512 .f32) (ix2 0 k) = (args m c).a14 (ix1 k) := by
  unfold args
  blk_point [iblk, idxW t]

/-- The weight `co`. -/
theorem co_at (k : Fin 512) : (iblk m c 14 t : FVec Ideal S1x512 .f32) (ix2 0 k) = (args m c).a15 (ix1 k) := by
  unfold args
  blk_point [iblk, idxW t]

/-- The array the window of `p1k` reads: the first 512 rows of the priority network's first matrix. -/
theorem p1k_array (i : Fin 512) (h : Fin 64) : (V m c main_call0_v1 : FVec Ideal S512x64 .f32) (ix2 i h)
    = (args m c).a16 (ix2 ⟨i, by omega⟩ h) := by
  have e : V m c main_call0_v1 = (extractStridedSlice S512x64 ![0, 0]
      (m ((c : Thread nD τ).loc main_arg16) : FVec Ideal S1024x64 .f32) slices_S1024x64_S512x64_0_0 : FVec Ideal S512x64 .f32) := by
    entry_read
    rfl
  rw [e]
  unfold args
  pointwise

/-- The array the window of `p1v` reads: the last 512 rows. -/
theorem p1v_array (i : Fin 512) (h : Fin 64) : (V m c main_call0_v2 : FVec Ideal S512x64 .f32) (ix2 i h)
    = (args m c).a16 (ix2 ⟨512 + i, by omega⟩ h) := by
  have e : V m c main_call0_v2 = (extractStridedSlice S512x64 ![512, 0]
      (m ((c : Thread nD τ).loc main_arg16) : FVec Ideal S1024x64 .f32) slices_S1024x64_S512x64_512_0 : FVec Ideal S512x64 .f32) := by
    entry_read
    rfl
  rw [e]
  unfold args
  pointwise

/-- The weight `p1k`. -/
theorem p1k_at (i : Fin 512) (h : Fin 64) :
    (iblk m c 15 t : FVec Ideal S512x64 .f32) (ix2 i h) = (args m c).a16 (ix2 ⟨i, by omega⟩ h) := by
  refine Eq.trans ?_ (p1k_array m c i h)
  blk_ext [iblk, idxW t]

/-- The weight `p1v`. -/
theorem p1v_at (i : Fin 512) (h : Fin 64) :
    (iblk m c 16 t : FVec Ideal S512x64 .f32) (ix2 i h) = (args m c).a16 (ix2 ⟨512 + i, by omega⟩ h) := by
  refine Eq.trans ?_ (p1v_array m c i h)
  blk_ext [iblk, idxW t]

/-- The weight `p1b`. -/
theorem p1b_at (h : Fin 64) : (iblk m c 17 t : FVec Ideal S1x64 .f32) (ix2 0 h) = (args m c).a17 (ix1 h) := by
  unfold args
  blk_point [iblk, idxW t]

/-- The weight `p2`. -/
theorem p2_at (h : Fin 64) : (iblk m c 18 t : FVec Ideal S1x64 .f32) (ix2 0 h) = (args m c).a18 (ix2 h 0) := by
  unfold args
  blk_point [iblk, idxW t]

/-- The weight `p2b`. -/
theorem p2b_at : (iblk m c 19 t : FVec Ideal S1x1 .f32) (ix2 0 0) = (args m c).a19 (ix1 0) := by
  unfold args
  blk_point [iblk, idxW t]

/-! ## A row of a block -/

/-- A bit read as a number is positive exactly when it is set. -/
theorem bit_pos (b : BitVec 1) : (0 < (FloatOps.uitofp (F := Ideal) .f32 b : EReal)) ↔ b = 1#1 := by
  show (0 : EReal) < ((b.toNat : ℝ) : EReal) ↔ _
  have : b = 0#1 ∨ b = 1#1 := by revert b; decide
  rcases this with rfl | rfl <;> simp

/-- The masked scores of a row of the block are the model's. -/
theorem masked_eq (r : Fin 64) (sc : FVec Ideal S64x64 .f32)
    (h : ∀ s, sc (ix2 r s) = ∑ d, (args m c).a1 (ix3 (place t r) s d) * pullK (args m c).params ((args m c).row (place t r)) d) :
    Payload.masked sc (iblk m c 3 t) r = scoreK (args m c).params ((args m c).row (place t r)) := by
  funext s
  have hb : (0 < (FloatOps.uitofp (F := Ideal) .f32 ((args m c).a3 (ix2 (place t r) s)) : EReal))
      ↔ ((args m c).row (place t r)).keep s := bit_pos _
  unfold Payload.masked scoreK
  rw [mask_at]
  by_cases hk : ((args m c).row (place t r)).keep s
  · rw [if_pos (hb.2 hk), if_pos hk, h]
    rfl
  · rw [if_neg (fun h => hk (hb.1 h)), if_neg hk]

/-- WHAT POINT `t` COMPUTES at row `r` and column `j` of its block: the model's kernel row. -/
theorem point (r : Fin 64) (j : Fin 512) :
    k0_pay1 (F := Ideal) (k0_pay5 (iblk m c 2 t)
        (k0_pay3 (iblk m c 1 t) (iblk m c 2 t) (iblk m c 15 t) (iblk m c 16 t) (iblk m c 17 t) (iblk m c 18 t) (iblk m c 19 t))
        (k0_pay4 (k0_pay2 (iblk m c 0 t) (iblk m c 11 t) (iblk m c 12 t) (iblk m c 4 t) (iblk m c 8 t) (iblk m c 5 t)) (iblk m c 1 t))
        (iblk m c 3 t) (iblk m c 6 t) (iblk m c 9 t) (iblk m c 7 t)) (iblk m c 10 t) (iblk m c 13 t) (iblk m c 14 t) (ix2 r j)
      = kernelRow (args m c).params ((args m c).row (place t r)) j := by
  rw [Payload.pay1]
  simp only [Payload.pay5, Payload.pay3]
  rw [masked_eq m c t r _ ?_]
  · simp only [val_at, key_at, wv_at, bv_at, wo_at, bo_at, go_at, co_at, p1k_at, p1v_at, p1b_at, p2_at, p2b_at]
    rfl
  · intro s
    rw [Payload.pay4]
    simp only [Payload.pay2, key_at, query_at, wq_at, bq_at, wk_at, gq_at, cq_at]
    rfl

/-! ## The whole array -/

/-- THE RESULT ARRAY: the blocks of the 16 points cover it, and each holds the model's rows. -/
theorem final : (dats m 0 c).arrAt 20 cfg0.N = (kernelOf (args m c) : FVec Ideal S1024x512 .f32) := by
  refine (dats m 0 c).arrAt_eq_of_covers 20 _ (by decide +kernel) fun t _ y => ?_
  blk_simp
  rw [after0_20]
  frame_out
  idx_vars y
  refine (point m c t y0 y1).trans ?_
  show kernelOf (args m c) (ix2 (place t y0) y1) = _
  unfold place
  blk_ext [idx t]

/-- EVERY RUN OF THE KERNEL ends with the model's rows in the result array and the arguments unchanged. -/
theorem run : θ_run defs (onTc (τ := τ) (main (F := Ideal))) ⟨m, fun _ => 0, ρ⟩ fun r => ∀ c : Dev nD,
    r.2.mem ((c : Thread nD τ).loc main_v0) = (kernelOf (args m c) : FVec Ideal S1024x512 .f32)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)
    ∧ r.2.mem ((c : Thread nD τ).loc main_arg10) = m ((c : Thread nD τ).loc main_arg10)
    ∧ r.2.mem ((c : Thread nD τ).loc main_arg11) = m ((c : Thread nD τ).loc main_arg11)
    ∧ r.2.mem ((c : Thread nD τ).loc main_arg12) = m ((c : Thread nD τ).loc main_arg12)
    ∧ r.2.mem ((c : Thread nD τ).loc main_arg13) = m ((c : Thread nD τ).loc main_arg13)
    ∧ r.2.mem ((c : Thread nD τ).loc main_arg14) = m ((c : Thread nD τ).loc main_arg14)
    ∧ r.2.mem ((c : Thread nD τ).loc main_arg15) = m ((c : Thread nD τ).loc main_arg15)
    ∧ r.2.mem ((c : Thread nD τ).loc main_arg16) = m ((c : Thread nD τ).loc main_arg16)
    ∧ r.2.mem ((c : Thread nD τ).loc main_arg17) = m ((c : Thread nD τ).loc main_arg17)
    ∧ r.2.mem ((c : Thread nD τ).loc main_arg18) = m ((c : Thread nD τ).loc main_arg18)
    ∧ r.2.mem ((c : Thread nD τ).loc main_arg19) = m ((c : Thread nD τ).loc main_arg19) := by
  refine (θ_run _ _ _).mono (fun r h c => ?_) (Cert.KernelIdeal.Value.run_blocks m ρ)
  exact ⟨(h c).1.trans (final m c), (h c).2⟩

end Cert.Retrieval.KernelValue

end
-- ==== Proof.ReferenceValue.lean ====
/-
  WHAT THE REFERENCE'S RESULT ARRAY HOLDS: every run ends with the array of the model's reference rows, `resultOf`, of the
  argument arrays, and with the arguments unchanged. The named intermediate arrays of the program are read at an index one
  after the other: priorities, scores, exponentials, softmax times priority, output projection.
-/
module

public import proofs.«01_k».proof.Proof.Gen.ReferenceIdeal.Run
public import proofs.«01_k».proof.Proof.Arrays
public import proofs.«01_k».proof.Proof.Constants

@[expose] public section

set_option maxRecDepth 16384

noncomputable section

namespace Cert.Retrieval.ReferenceValue

open Idealize.ShloMosaic Idealize.ShloMosaic.TcCoe Idealize.ShloMosaic.StableHlo Idealize.SL.Sem
open Cert.ReferenceIdeal Cert.ReferenceIdeal.Value

variable (V0 : Valuation τ sig (Elt Ideal))

/-- The arguments, as the reference finds them in memory. -/
def args : Args where
  a0 := V0 (Proc.devRef .tc main_arg0)
  a1 := V0 (Proc.devRef .tc main_arg1)
  a2 := V0 (Proc.devRef .tc main_arg2)
  a3 := V0 (Proc.devRef .tc main_arg3)
  a4 := V0 (Proc.devRef .tc main_arg4)
  a5 := V0 (Proc.devRef .tc main_arg5)
  a6 := V0 (Proc.devRef .tc main_arg6)
  a7 := V0 (Proc.devRef .tc main_arg7)
  a8 := V0 (Proc.devRef .tc main_arg8)
  a9 := V0 (Proc.devRef .tc main_arg9)
  a10 := V0 (Proc.devRef .tc main_arg10)
  a11 := V0 (Proc.devRef .tc main_arg11)
  a12 := V0 (Proc.devRef .tc main_arg12)
  a13 := V0 (Proc.devRef .tc main_arg13)
  a14 := V0 (Proc.devRef .tc main_arg14)
  a15 := V0 (Proc.devRef .tc main_arg15)
  a16 := V0 (Proc.devRef .tc main_arg16)
  a17 := V0 (Proc.devRef .tc main_arg17)
  a18 := V0 (Proc.devRef .tc main_arg18)
  a19 := V0 (Proc.devRef .tc main_arg19)

/-- The reference divides the sum of squares by `512 - 0`: that is 512. -/
theorem len_sub_zero : Ideal.ofBits .f32 0x44000000#32 - FloatOps.sitofp (F := Ideal) .f32 (0#32) = len := by
  show len - (((0#32 : BitVec 32).toInt : ℝ) : EReal) = len
  simp

/-- 512 is positive, so the reference's variance is the quotient and not its "not a number" alternative. -/
theorem len_pos : 0 < len := by
  rw [len_eq]; exact_mod_cast (by norm_num : (0 : ℝ) < 512)

/-- The priorities: softplus of the priority network. -/
theorem v9_apply (b : Fin 1024) (s : Fin 64) :
    res_main_v9 (F := Ideal) V0 (ix3 b s 0) = logit (args V0).params ((args V0).row b) s := by
  pointwise [res_main_v9]
  rfl

/-- The masked scores. -/
theorem v46_apply (b : Fin 1024) (s : Fin 64) :
    res_main_v46 (F := Ideal) V0 (ix2 b s) = scoreR (args V0).params ((args V0).row b) s := by
  pointwise [res_main_v46, res_main_call2_v8, res_main_call2_v5, len_sub_zero, id_eq, ofBits_bot]
  simp only [len_pos, if_true, Scalar.select]
  unfold scoreR
  classical
  exact @ite_congr _ _ _ _ _ _ _ _ (Classical.propDecidable _) rfl (fun _ => rfl) (fun _ => rfl)

/-- The reference's shifted exponentials, of any scores. -/
theorem exp_apply (x : FVec Ideal S1024x64 .f32) (b : Fin 1024) (s : Fin 64) :
    Host.exp (subf x (broadcastInDim S1024x64 ![0, 1] Gen.bcast_S1024x1_S1024x64_0_1 (broadcastInDim S1024x1 ![0]
      Gen.bcast_S1024_S1024x1_0 (maximumf (broadcastInDim S1024 ![] Gen.bcast_S_S1024 (constant S_ .f32 0xFF800000#32))
        (Host.reduce FloatOps.maximumf x (constant S_ .f32 0xFF800000#32) Gen.reducesTo_S1024x64_S1024_d1 Gen.h_S_)))))
      (ix2 b s) = expo (fun k => x (ix2 b k)) s := by
  pointwise [ofBits_bot]
  rw [max_eq_right bot_le]
  rfl

/-- The exponentials of the scores minus the greatest score. -/
theorem v53_apply (b : Fin 1024) (s : Fin 64) :
    res_main_v53 (F := Ideal) V0 (ix2 b s) = expo (scoreR (args V0).params ((args V0).row b)) s :=
  (exp_apply (res_main_v46 V0) b s).trans
    (congrArg (fun f => expo f s) (funext fun k => v46_apply V0 b k))

/-- The softmax weights times the priorities. -/
theorem v58_apply (b : Fin 1024) (s : Fin 64) :
    res_main_v58 (F := Ideal) V0 (ix2 b s) = soft (scoreR (args V0).params ((args V0).row b)) (prio (args V0).params ((args V0).row b)) s := by
  pointwise [res_main_v58, v53_apply, v9_apply, res_main_call1_v3, res_main_call1_cst, ne_eq, not_true_eq_false, if_false]
  rfl

/-- The output projection of what was retrieved. -/
theorem v69_apply (b : Fin 1024) (j : Fin 512) :
    res_main_v69 (F := Ideal) V0 (ix2 b j)
      = (∑ e, readR (args V0).params ((args V0).row b) e * (args V0).params.wo e j) + (args V0).params.bo j := by
  pointwise [res_main_v69, v58_apply]
  rfl

/-- From any memory the reference runs to its end, with the result array at the reference's row of every batch row, and
    every argument kept. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v87) = (resultOf (args (launchContents m c)) : FVec Ideal S1024x512 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) := by
  refine (θ_run defs _ _).mono (fun r h c => ⟨(h c).1.trans ?_, (h c).2⟩) (Value.run (F := Ideal) m ρ)
  generalize launchContents m c = V0
  funext i
  idx_vars i
  pointwise [v69_apply, res_main_call4_v8, res_main_call4_v5, len_sub_zero, id_eq, resultOf]
  simp only [len_pos, if_true]
  rfl

end Cert.Retrieval.ReferenceValue

end
-- ==== Proof.Reals.lean ====
/-
  EXTENDED REALS THAT ARE REAL: closure of "is a real number" under the operations the two programs use, and the few laws of
  sums, products and exponentials of extended reals that the equation needs.
-/
module

public import proofs.«01_k».proof.Proof.Model
public import proofs.«01_k».proof.Proof.Constants

@[expose] public section

noncomputable section

namespace Cert.Retrieval

open Idealize.ShloMosaic

/-- An extended real that is a real number. -/
def IsReal (x : EReal) : Prop := ∃ r : ℝ, x = (r : EReal)

/-- Neither infinity: a real number. -/
theorem IsReal.of_ne {x : EReal} (ht : x ≠ ⊤) (hb : x ≠ ⊥) : IsReal x := ⟨x.toReal, (EReal.coe_toReal ht hb).symm⟩

/-- A sum of real numbers, taken among the extended reals, is the real sum. -/
theorem sum_coe {ι : Type} (t : Finset ι) (f : ι → ℝ) : (∑ i ∈ t, (f i : EReal)) = ((∑ i ∈ t, f i : ℝ) : EReal) := by
  classical
  induction t using Finset.induction_on with
  | empty => simp
  | insert a t ha ih => rw [Finset.sum_insert ha, Finset.sum_insert ha, ih, EReal.coe_add]

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A sum of extended reals that are all real is real. -/
theorem IsReal.sum {ι : Type} [Fintype ι] {f : ι → EReal} (h : ∀ i, IsReal (f i)) : IsReal (∑ i, f i) := by
  choose g hg using h
  refine ⟨∑ i, g i, ?_⟩
  rw [← sum_coe]
  exact Finset.sum_congr rfl fun i _ => hg i

/-- A square is nonnegative. -/
theorem sq_nonneg' (x : EReal) : 0 ≤ x * x := by
  rw [EReal.mul_nonneg_iff]
  rcases le_total 0 x with h | h
  · exact Or.inl ⟨h, h⟩
  · exact Or.inr ⟨h, h⟩

/-- A sum of nonnegative extended reals times a factor, term by term. -/
theorem sum_mul_nonneg {ι : Type} (t : Finset ι) (f : ι → EReal) (c : EReal) (h : ∀ i, 0 ≤ f i) :
    (∑ i ∈ t, f i) * c = ∑ i ∈ t, f i * c := by
  classical
  induction t using Finset.induction_on with
  | empty => simp
  | insert a t ha ih =>
    rw [Finset.sum_insert ha, Finset.sum_insert ha,
      EReal.right_distrib_of_nonneg (h a) (Finset.sum_nonneg fun i _ => h i), ih]

/-- A sum with a term `-∞` is `-∞`. -/
theorem sum_eq_bot {ι : Type} [Fintype ι] {f : ι → EReal} {i : ι} (h : f i = ⊥) : ∑ k, f k = ⊥ := by
  classical
  rw [← Finset.add_sum_erase Finset.univ f (Finset.mem_univ i), h, EReal.bot_add]

/-- The exponential of anything but `+∞` is a nonnegative real. -/
theorem exp_real {x : EReal} (h : x ≠ ⊤) : ∃ r : ℝ, 0 ≤ r ∧ Ideal.exp x = (r : EReal) := by
  induction x with
  | bot => exact ⟨0, le_rfl, by simp⟩
  | coe r => exact ⟨Real.exp r, (Real.exp_pos r).le, by simp⟩
  | top => exact absurd rfl h

/-- The exponential is nonnegative. -/
theorem exp_nonneg (x : EReal) : 0 ≤ Ideal.exp x := by
  induction x with
  | bot => simp
  | coe r => simpa using (Real.exp_pos r).le
  | top => simp

/-- `log1p` of a nonnegative number is nonnegative. -/
theorem log1p_nonneg {x : EReal} (h : 0 ≤ x) : 0 ≤ Ideal.log1p x := by
  unfold Ideal.log1p
  induction x with
  | bot => simp at h
  | coe r =>
    have hr : (0 : ℝ) ≤ r := by exact_mod_cast h
    have e : (1 : EReal) + (r : EReal) = ((1 + r : ℝ) : EReal) := by simp
    rw [e, Ideal.log_coe, if_neg (by linarith)]
    exact_mod_cast Real.log_nonneg (by linarith)
  | top =>
    have e : (1 : EReal) + ⊤ = ⊤ := EReal.coe_add_top 1
    rw [e, Ideal.log_top]
    exact le_top

/-- A priority is nonnegative. -/
theorem softplus_nonneg (x : EReal) : 0 ≤ softplus x :=
  add_nonneg (le_max_right _ _) (log1p_nonneg (exp_nonneg _))

/-- Dividing by the length of a row is multiplying by its reciprocal. -/
theorem div_len (x : EReal) : Ideal.div x len = x * ((1 / 512 : ℝ) : EReal) := by
  rw [len_eq, Ideal.div_coe (by norm_num)]

end Cert.Retrieval

end
-- ==== Proof.LayerNorm.lean ====
/-
  LAYER NORMALISATION: the kernel's form (times the reciprocal square root) and the reference's form (over the square root)
  agree on every row of extended reals, and with a real gain and bias their result is real on every row.
-/
module

public import proofs.«01_k».proof.Proof.Reals

@[expose] public section

noncomputable section

namespace Cert.Retrieval

open Idealize.ShloMosaic

/-- A variance is nonnegative. -/
theorem variance_nonneg (x : Fin 512 → EReal) : 0 ≤ variance x := by
  unfold variance
  rw [div_len]
  refine EReal.mul_nonneg (Finset.sum_nonneg fun i _ => sq_nonneg' _) ?_
  exact_mod_cast (by norm_num : (0 : ℝ) ≤ 1 / 512)

/-- The variance plus the small constant is `+∞` or a positive real. -/
theorem spread_cases (x : Fin 512 → EReal) :
    variance x + epsLN = ⊤ ∨ (variance x ≠ ⊤ ∧ ∃ r : ℝ, 0 < r ∧ variance x + epsLN = (r : EReal)) := by
  obtain ⟨e, he, hE⟩ := epsLN_real
  have h0 := variance_nonneg x
  rw [hE]
  generalize variance x = v at h0
  induction v with
  | bot => simp at h0
  | coe r =>
    have hr : (0 : ℝ) ≤ r := by exact_mod_cast h0
    exact Or.inr ⟨EReal.coe_ne_top r, r + e, by linarith, (EReal.coe_add r e).symm⟩
  | top => exact Or.inl (by simp)

/-- Dividing by the square root is multiplying by the reciprocal square root. -/
theorem div_sqrt (x : Fin 512 → EReal) (y : EReal) :
    Ideal.div y (Ideal.sqrt (variance x + epsLN)) = y * Ideal.rsqrt (variance x + epsLN) := by
  rcases spread_cases x with h | ⟨_, r, hr, h⟩
  · rw [h]
    simp [Ideal.div]
  · rw [h, Ideal.sqrt_coe, Ideal.rsqrt_coe, if_neg (by linarith), if_neg (by linarith), if_neg (by linarith),
      Ideal.div_coe (Real.sqrt_pos.2 hr).ne', one_div]

/-- The two forms of layer normalisation are one function. -/
theorem normK_eq_normR (x g b : Fin 512 → EReal) : normK x g b = normR x g b := by
  funext j
  unfold normK normR
  rw [div_sqrt]

/-- A normalised deviation is real, whatever the row: an infinite variance makes the factor zero, and a finite one forces
    every deviation to be real. -/
theorem scaled_real (x : Fin 512 → EReal) (j : Fin 512) : IsReal (dev x j * Ideal.rsqrt (variance x + epsLN)) := by
  rcases spread_cases x with h | ⟨hv, r, hr, h⟩
  · rw [h]
    exact ⟨0, by simp⟩
  · have hs : (∑ i, dev x i * dev x i) ≠ ⊤ := by
      intro hs
      apply hv
      unfold variance
      rw [hs, div_len]
      exact EReal.top_mul_coe_of_pos (by norm_num)
    have hd : dev x j * dev x j ≠ ⊤ := by
      refine ne_top_of_le_ne_top hs ?_
      exact Finset.single_le_sum (f := fun i => dev x i * dev x i) (fun i _ => sq_nonneg' _) (Finset.mem_univ j)
    have hj : IsReal (dev x j) := by
      refine IsReal.of_ne ?_ ?_ <;> intro e <;> rw [e] at hd <;> simp at hd
    rw [h, Ideal.rsqrt_coe, if_neg (by linarith), if_neg (by linarith)]
    exact hj.mul ⟨_, rfl⟩

/-- With a real gain and bias the normalised row is real. -/
theorem normK_real (x g b : Fin 512 → EReal) (hg : ∀ i, IsReal (g i)) (hb : ∀ i, IsReal (b i)) (j : Fin 512) :
    IsReal (normK x g b j) :=
  ((scaled_real x j).mul (hg j)).add (hb j)

end Cert.Retrieval

end
-- ==== Proof.Agree.lean ====
/-
  AGREEMENT UP TO THE KIND OF INFINITY: two extended reals agree if they are equal or both infinite. Sums and products with a
  common factor keep agreement, a real factor may move across a sum, and a layer normalisation gives equal rows on agreeing rows:
  where one entry is infinite, the whole normalised row is the bias.
-/
module

public import proofs.«01_k».proof.Proof.LayerNorm

@[expose] public section

noncomputable section

namespace Cert.Retrieval

open Idealize.ShloMosaic

/-- A sum of two is real exactly when both are. -/
theorem isReal_add_iff (x y : EReal) : IsReal (x + y) ↔ IsReal x ∧ IsReal y := by
  refine ⟨fun h => ?_, fun h => h.1.add h.2⟩
  obtain ⟨r, hr⟩ := h
  induction x with
  | bot => rw [EReal.bot_add] at hr; exact absurd hr (EReal.bot_ne_coe r)
  | coe a =>
    induction y with
    | bot => rw [EReal.add_bot] at hr; exact absurd hr (EReal.bot_ne_coe r)
    | coe b => exact ⟨⟨a, rfl⟩, ⟨b, rfl⟩⟩
    | top => rw [EReal.coe_add_top] at hr; exact absurd hr (EReal.top_ne_coe r)
  | top =>
    induction y with
    | bot => rw [EReal.add_bot] at hr; exact absurd hr (EReal.bot_ne_coe r)
    | coe b => rw [EReal.top_add_coe] at hr; exact absurd hr (EReal.top_ne_coe r)
    | top => rw [EReal.top_add_top] at hr; exact absurd hr (EReal.top_ne_coe r)

/-- A sum is real exactly when every term is. -/
theorem isReal_sum_iff {ι : Type} [Fintype ι] (f : ι → EReal) : IsReal (∑ i, f i) ↔ ∀ i, IsReal (f i) := by
  classical
  refine ⟨fun h i => ?_, IsReal.sum⟩
  rw [← Finset.add_sum_erase Finset.univ f (Finset.mem_univ i), isReal_add_iff] at h
  exact h.1

/-- An infinite number times one that is not zero is infinite. -/
theorem not_isReal_mul {x c : EReal} (hx : ¬IsReal x) (hc : c ≠ 0) : ¬IsReal (x * c) := by
  rintro ⟨r, hr⟩
  have hb : x = ⊤ ∨ x = ⊥ := by
    by_contra h
    rw [not_or] at h
    exact hx (IsReal.of_ne h.1 h.2)
  rcases hb with rfl | rfl <;> rcases lt_or_gt_of_ne hc with h | h
  · rw [EReal.top_mul_of_neg h] at hr; exact EReal.bot_ne_coe r hr
  · rw [EReal.top_mul_of_pos h] at hr; exact EReal.top_ne_coe r hr
  · rw [EReal.bot_mul_of_neg h] at hr; exact EReal.top_ne_coe r hr
  · rw [EReal.bot_mul_of_pos h] at hr; exact EReal.bot_ne_coe r hr

/-- Equal, or both infinite. -/
def Agree (x y : EReal) : Prop := x = y ∨ (¬IsReal x ∧ ¬IsReal y)

theorem Agree.refl (x : EReal) : Agree x x := Or.inl rfl

theorem Agree.symm {x y : EReal} (h : Agree x y) : Agree y x := h.imp Eq.symm And.symm

theorem Agree.trans {x y z : EReal} (h : Agree x y) (k : Agree y z) : Agree x z := by
  rcases h with rfl | h
  · exact k
  · rcases k with rfl | k
    · exact Or.inr h
    · exact Or.inr ⟨h.1, k.2⟩

/-- A common term. -/
theorem Agree.add {x y : EReal} (h : Agree x y) (b : EReal) : Agree (x + b) (y + b) := by
  rcases h with rfl | h
  · exact Or.inl rfl
  · exact Or.inr ⟨fun k => h.1 ((isReal_add_iff _ _).1 k).1, fun k => h.2 ((isReal_add_iff _ _).1 k).1⟩

/-- A common factor. -/
theorem Agree.mul {x y : EReal} (h : Agree x y) (c : EReal) : Agree (x * c) (y * c) := by
  rcases h with rfl | h
  · exact Or.inl rfl
  · by_cases hc : c = 0
    · exact Or.inl (by rw [hc, mul_zero, mul_zero])
    · exact Or.inr ⟨not_isReal_mul h.1 hc, not_isReal_mul h.2 hc⟩

/-- Sums of agreeing terms. -/
theorem Agree.sum {ι : Type} [Fintype ι] {f g : ι → EReal} (h : ∀ i, Agree (f i) (g i)) : Agree (∑ i, f i) (∑ i, g i) := by
  by_cases hf : ∀ i, f i = g i
  · exact Or.inl (Finset.sum_congr rfl fun i _ => hf i)
  · obtain ⟨i, hi⟩ := not_forall.1 hf
    obtain ⟨h1, h2⟩ := (h i).resolve_left hi
    exact Or.inr ⟨fun k => h1 ((isReal_sum_iff f).1 k i), fun k => h2 ((isReal_sum_iff g).1 k i)⟩

/-- A real factor of a sum, moved to the terms. -/
theorem Agree.sum_mul {ι : Type} [Fintype ι] (f : ι → EReal) {c : EReal} (hc : IsReal c) :
    Agree ((∑ i, f i) * c) (∑ i, f i * c) := by
  obtain ⟨r, rfl⟩ := hc
  by_cases hf : ∀ i, IsReal (f i)
  · choose a ha using hf
    refine Or.inl ?_
    rw [Finset.sum_congr rfl fun i _ => ha i, sum_coe, ← EReal.coe_mul, Finset.sum_mul, ← sum_coe]
    exact Finset.sum_congr rfl fun i _ => by rw [ha, EReal.coe_mul]
  · obtain ⟨i, hi⟩ := not_forall.1 hf
    by_cases h0 : (r : EReal) = 0
    · refine Or.inl ?_
      rw [h0, mul_zero, Finset.sum_eq_zero fun k _ => mul_zero _]
    · refine Or.inr ⟨not_isReal_mul (fun k => hi ((isReal_sum_iff f).1 k i)) h0, fun k => ?_⟩
      exact not_isReal_mul hi h0 ((isReal_sum_iff _).1 k i)

/-- A row with an infinite entry has infinite variance. -/
theorem variance_top (x : Fin 512 → EReal) {i : Fin 512} (hi : ¬IsReal (x i)) : variance x = ⊤ := by
  have hm : ¬IsReal (mean x) := by
    unfold mean
    rw [div_len]
    refine not_isReal_mul (fun k => hi ((isReal_sum_iff x).1 k i)) ?_
    exact_mod_cast (by norm_num : (1 / 512 : ℝ) ≠ 0)
  have hd : ¬IsReal (dev x i) := fun k => by
    unfold dev at k
    rw [sub_eq_add_neg] at k
    obtain ⟨r, hr⟩ := ((isReal_add_iff _ _).1 k).2
    exact hm ⟨-r, by rw [EReal.coe_neg, ← hr, neg_neg]⟩
  have hs : dev x i * dev x i = ⊤ := by
    by_contra h
    refine not_isReal_mul hd (fun h0 => hd ⟨0, h0⟩) (IsReal.of_ne h fun hb => ?_)
    have := sq_nonneg' (dev x i)
    rw [hb] at this
    simp at this
  have hS : ∑ k, dev x k * dev x k = ⊤ := by
    refine top_le_iff.1 ?_
    rw [← hs]
    exact Finset.single_le_sum (f := fun k => dev x k * dev x k) (fun k _ => sq_nonneg' _) (Finset.mem_univ i)
  unfold variance
  rw [hS, div_len]
  exact EReal.top_mul_coe_of_pos (by norm_num)

/-- A row with an infinite entry is normalised to the bias. -/
theorem normK_infinite (x g b : Fin 512 → EReal) {i : Fin 512} (hi : ¬IsReal (x i)) : normK x g b = b := by
  obtain ⟨e, _, hE⟩ := epsLN_real
  funext j
  unfold normK
  rw [variance_top x hi, hE, EReal.top_add_coe, Ideal.rsqrt_top, mul_zero, zero_mul, zero_add]

/-- Agreeing rows are normalised to equal rows. -/
theorem normK_agree (x y g b : Fin 512 → EReal) (h : ∀ i, Agree (x i) (y i)) : normK x g b = normK y g b := by
  by_cases hxy : ∀ i, x i = y i
  · rw [funext hxy]
  · obtain ⟨i, hi⟩ := not_forall.1 hxy
    obtain ⟨h1, h2⟩ := (h i).resolve_left hi
    rw [normK_infinite x g b h1, normK_infinite y g b h2]

end Cert.Retrieval

end
-- ==== Proof.Weights.lean ====
/-
  THE WEIGHTS: the softmax exponentials, and the proof that the kernel's one division and the reference's two divisions give
  the same real weights, for scores none of which is `+∞` and for nonnegative priorities. Nothing is asked of the mask: where
  every exponential is zero (all slots masked out) both sides' weights are zero.
-/
module

public import proofs.«01_k».proof.Proof.Reals

@[expose] public section

noncomputable section

namespace Cert.Retrieval

open Idealize.ShloMosaic

/-! ## The exponentials -/

/-- The greatest of the scores over a set of slots is not `+∞` if none of them is. -/
theorem fold_ne_top (s : Fin 64 → EReal) (hs : ∀ i, s i ≠ ⊤) (t : Finset (Fin 64)) : t.fold max ⊥ s ≠ ⊤ := by
  induction t using Finset.induction_on with
  | empty => simp
  | insert a t ha ih =>
    rw [Finset.fold_insert ha]
    rcases max_choice (s a) (t.fold max ⊥ s) with h | h <;> rw [h]
    · exact hs a
    · exact ih

/-- No score exceeds the greatest. -/
theorem le_peak (s : Fin 64 → EReal) (i : Fin 64) : s i ≤ peak s :=
  (Finset.le_fold_max _).2 (Or.inr ⟨i, Finset.mem_univ i, le_rfl⟩)

/-- The exponentials are nonnegative reals. -/
theorem expo_real (s : Fin 64 → EReal) (hs : ∀ i, s i ≠ ⊤) (i : Fin 64) : ∃ r : ℝ, 0 ≤ r ∧ expo s i = (r : EReal) := by
  refine exp_real ?_
  have h1 := hs i
  have h2 : peak s ≠ ⊤ := fold_ne_top s hs _
  have h3 := le_peak s i
  generalize s i = x at *
  generalize peak s = y at *
  induction y with
  | bot =>
    have : x = ⊥ := le_bot_iff.1 h3
    rw [this]
    simp
  | coe b =>
    induction x with
    | bot => simp
    | coe a =>
      rw [← EReal.coe_sub]
      exact EReal.coe_ne_top _
    | top => exact absurd rfl h1
  | top => exact absurd rfl h2

/-- Adding one real number to every score adds it to the greatest score. -/
theorem fold_shift (s : Fin 64 → EReal) (k : ℝ) (t : Finset (Fin 64)) :
    t.fold max ⊥ (fun i => s i + (k : EReal)) = t.fold max ⊥ s + (k : EReal) := by
  induction t using Finset.induction_on with
  | empty => simp
  | insert a t ha ih =>
    rw [Finset.fold_insert ha, Finset.fold_insert ha, ih]
    have hm : Monotone fun x : EReal => x + (k : EReal) := fun x y h => add_le_add_left h _
    exact (hm.map_max).symm

/-- A difference does not see a real number added to both sides. -/
theorem sub_shift (x y : EReal) (k : ℝ) : (x + k) - (y + k) = x - y := by
  induction x with
  | bot => simp
  | coe a =>
    induction y with
    | bot => simp
    | coe b =>
      rw [← EReal.coe_add, ← EReal.coe_add, ← EReal.coe_sub, ← EReal.coe_sub]
      congr 1
      ring
    | top => simp
  | top =>
    induction y with
    | bot => simp
    | coe b =>
      rw [EReal.top_add_coe, ← EReal.coe_add, EReal.top_sub_coe, EReal.top_sub_coe]
    | top => simp

/-- The exponentials do not see a real number added to every score. -/
theorem expo_shift (s : Fin 64 → EReal) (k : ℝ) : expo (fun i => s i + (k : EReal)) = expo s := by
  funext i
  unfold expo peak
  rw [fold_shift, sub_shift]

/-! ## The weights from the exponentials -/

/-- The case of no exponential: every weight is zero on both sides. -/
theorem weights_zero (s p : Fin 64 → EReal) (hp : ∀ i, 0 ≤ p i) (he : ∀ i, expo s i = 0) :
    (∀ i, weightK s p i = 0) ∧ (∀ i, weightR s p i = 0) ∧ totalK s p = 0 := by
  have hn : ∀ i, num s p i = 0 := fun i => by rw [num, he, zero_mul]
  have hsoft : ∀ i, soft s p i = ⊥ * p i := fun i => by
    unfold soft
    rw [he i, Finset.sum_eq_zero fun k _ => he k]
    simp [Ideal.div]
  refine ⟨fun i => by rw [weightK, hn, zero_mul], fun i => ?_, by rw [totalK, Finset.sum_eq_zero fun k _ => hn k, zero_mul]⟩
  unfold weightR
  by_cases h : ∃ k, soft s p k = ⊥
  · obtain ⟨k, hk⟩ := h
    rw [sum_eq_bot hk]
    simp [Ideal.div]
  · have h0 : ∀ k, soft s p k = 0 := by
      intro k
      rcases (hp k).eq_or_lt with h0 | h0
      · rw [hsoft, ← h0, mul_zero]
      · exact absurd ⟨k, by rw [hsoft, EReal.bot_mul_of_pos h0]⟩ h
    obtain ⟨e, hpos, hE⟩ := epsW_real
    rw [Finset.sum_eq_zero fun k _ => h0 k, h0 i, zero_add, hE, Ideal.div_coe hpos.ne', zero_mul]

/-- The case of a positive sum of exponentials. -/
theorem weights_pos (s p : Fin 64 → EReal) (hp : ∀ i, 0 ≤ p i) (a : Fin 64 → ℝ) (ha : ∀ i, 0 ≤ a i)
    (he : ∀ i, expo s i = (a i : EReal)) (hz : 0 < ∑ i, a i) :
    ∃ w : Fin 64 → ℝ, (∀ i, 0 ≤ w i) ∧ (∀ i, weightK s p i = (w i : EReal)) ∧ (∀ i, weightR s p i = (w i : EReal))
      ∧ totalK s p = ((∑ i, w i : ℝ) : EReal) := by
  obtain ⟨e, hpos, hE⟩ := epsW_real
  have hZ : ∑ i, expo s i = ((∑ i, a i : ℝ) : EReal) := by
    rw [← sum_coe]
    exact Finset.sum_congr rfl fun i _ => he i
  have hn0 : ∀ i, 0 ≤ num s p i := fun i => EReal.mul_nonneg (by rw [he i]; exact_mod_cast ha i) (hp i)
  have hsoft : ∀ i, soft s p i = num s p i * ((1 / ∑ k, a k : ℝ) : EReal) := fun i => by
    unfold soft num
    rw [hZ, Ideal.div_coe hz.ne', mul_right_comm]
  have hS : ∑ i, soft s p i = (∑ i, num s p i) * ((1 / ∑ k, a k : ℝ) : EReal) := by
    rw [sum_mul_nonneg _ _ _ hn0]
    exact Finset.sum_congr rfl fun i _ => hsoft i
  by_cases hT : ∑ i, num s p i = ⊤
  · refine ⟨fun _ => 0, fun _ => le_rfl, fun i => ?_, fun i => ?_, ?_⟩
    · unfold weightK recip
      rw [hT, hZ, hE, ← EReal.coe_mul, EReal.top_add_coe]
      simp [Ideal.div]
    · unfold weightR
      rw [hS, hT, hE, EReal.top_mul_coe_of_pos (by positivity), EReal.top_add_coe]
      simp [Ideal.div]
    · unfold totalK recip
      rw [hT, hZ, hE, ← EReal.coe_mul, EReal.top_add_coe]
      simp [Ideal.div]
  · have hr : ∀ i, IsReal (num s p i) := fun i =>
      IsReal.of_ne
        (ne_top_of_le_ne_top hT (Finset.single_le_sum (f := num s p) (fun k _ => hn0 k) (Finset.mem_univ i)))
        (fun h => by have := hn0 i; rw [h] at this; simp at this)
    choose t ht using hr
    have ht0 : ∀ i, 0 ≤ t i := fun i => by have := hn0 i; rw [ht i] at this; exact_mod_cast this
    have hTt : ∑ i, num s p i = ((∑ i, t i : ℝ) : EReal) := by
      rw [← sum_coe]
      exact Finset.sum_congr rfl fun i _ => ht i
    have hT0 : 0 ≤ ∑ i, t i := Finset.sum_nonneg fun i _ => ht0 i
    have hden : 0 < (∑ i, t i) + e * ∑ i, a i := by positivity
    have hrec : recip s p = ((1 / ((∑ i, t i) + e * ∑ i, a i) : ℝ) : EReal) := by
      unfold recip
      rw [hTt, hZ, hE, ← EReal.coe_mul, ← EReal.coe_add, Ideal.div_coe hden.ne', one_mul]
    have hden' : 0 < (∑ i, t i) * (1 / ∑ k, a k) + e := by positivity
    refine ⟨fun i => t i * (1 / ((∑ i, t i) + e * ∑ i, a i)), fun i => mul_nonneg (ht0 i) (by positivity), fun i => ?_, fun i => ?_, ?_⟩
    · rw [weightK, hrec, ht i, EReal.coe_mul]
    · rw [weightR, hS, hsoft, hTt, ht i, hE, ← EReal.coe_mul, ← EReal.coe_mul, ← EReal.coe_add, Ideal.div_coe hden'.ne',
        ← EReal.coe_mul]
      congr 1
      field_simp
    · rw [totalK, hrec, hTt, ← EReal.coe_mul, Finset.sum_mul]

/-- THE WEIGHTS AGREE: for scores none of which is `+∞` and nonnegative priorities, both sides have the same nonnegative real
    weights, and what the kernel takes for their sum is their sum. -/
theorem weights (s p : Fin 64 → EReal) (hs : ∀ i, s i ≠ ⊤) (hp : ∀ i, 0 ≤ p i) :
    ∃ w : Fin 64 → ℝ, (∀ i, 0 ≤ w i) ∧ (∀ i, weightK s p i = (w i : EReal)) ∧ (∀ i, weightR s p i = (w i : EReal))
      ∧ totalK s p = ((∑ i, w i : ℝ) : EReal) := by
  choose a ha he using expo_real s hs
  rcases (Finset.sum_nonneg fun i (_ : i ∈ Finset.univ) => ha i).eq_or_lt with hz | hz
  · have h0 : ∀ i, a i = 0 := fun i => (Finset.sum_eq_zero_iff_of_nonneg fun k _ => ha k).1 hz.symm i (Finset.mem_univ i)
    obtain ⟨hK, hR, hT⟩ := weights_zero s p hp fun i => by rw [he i, h0 i, EReal.coe_zero]
    exact ⟨fun _ => 0, fun _ => le_rfl, fun i => by rw [hK]; simp, fun i => by rw [hR]; simp, by rw [hT]; simp⟩
  · exact weights_pos s p hp a ha he hz

/-- The reference's weights do not see a real number added to every score. -/
theorem weightR_shift (s p : Fin 64 → EReal) (k : ℝ) : weightR (fun i => s i + (k : EReal)) p = weightR s p := by
  funext i
  unfold weightR soft
  rw [expo_shift]

end Cert.Retrieval

end
-- ==== Proof.Equation.lean ====
/-
  THE EQUATION: where the stored keys, the three projections (but for the bias of the value projection) and the query's gain and
  bias are real, the kernel's row is the reference's row.

  The kernel carries the query through the key projection once (instead of projecting 64 keys), drops the key bias (it adds
  one number to all scores, which the softmax does not see), and projects the mixed value once (instead of 64 values). The
  last step is true of real stored values; of infinite ones the two retrieved vectors agree up to the kind of infinity, which
  the output's normalisation does not see.
-/
module

public import proofs.«01_k».proof.Proof.Agree
public import proofs.«01_k».proof.Proof.Weights

@[expose] public section

noncomputable section

namespace Cert.Retrieval

open Idealize.ShloMosaic

/-- The stored keys, the projections and the query's gain and bias are real numbers. -/
structure Finite (P : Params) (R : Row) : Prop where
  /-- the stored keys -/
  key : ∀ s d, IsReal (R.key s d)
  /-- the query projection -/
  wq : ∀ i e, IsReal (P.wq i e)
  /-- its bias -/
  bq : ∀ e, IsReal (P.bq e)
  /-- the key projection -/
  wk : ∀ i e, IsReal (P.wk i e)
  /-- its bias -/
  bk : ∀ e, IsReal (P.bk e)
  /-- the value projection -/
  wv : ∀ i e, IsReal (P.wv i e)
  /-- the gain of the query's normalisation -/
  gq : ∀ e, IsReal (P.gq e)
  /-- its bias -/
  cq : ∀ e, IsReal (P.cq e)

variable (P : Params) (R : Row)

/-- Both sides project the same query. -/
theorem queryK_eq_queryR : queryK P R = queryR P R := by
  funext e
  unfold queryK queryR
  rw [normK_eq_normR]

variable {P R}

/-- The projected query is real. -/
theorem queryK_real (h : Finite P R) (e : Fin 512) : IsReal (queryK P R e) :=
  (IsReal.sum fun i => (normK_real _ _ _ h.gq h.cq i).mul (h.wq i e)).add (h.bq e)

/-- Over the reals: the projected query against a projected key is the carried query against the key itself, plus the
    projected query against the key bias. -/
theorem carry (q bk : Fin 512 → ℝ) (k : Fin 512 → ℝ) (wk : Fin 512 → Fin 512 → ℝ) :
    ∑ e, q e * ((∑ d, k d * wk d e) + bk e) = (∑ d, k d * ∑ e, q e * wk d e) + ∑ e, q e * bk e := by
  simp only [mul_add, Finset.sum_add_distrib, Finset.mul_sum]
  congr 1
  rw [Finset.sum_comm]
  exact Finset.sum_congr rfl fun d _ => Finset.sum_congr rfl fun e _ => by ring

/-- Projecting the mixed value agrees with mixing the projected values. -/
theorem mixture (w : Fin 64 → ℝ) (v : Fin 64 → Fin 512 → EReal) (wv : Fin 512 → EReal) (hwv : ∀ d, IsReal (wv d)) :
    Agree (∑ d, (∑ s, v s d * (w s : EReal)) * wv d) (∑ s, (w s : EReal) * ∑ d, v s d * wv d) := by
  refine (Agree.sum fun d => Agree.sum_mul _ (hwv d)).trans ?_
  rw [Finset.sum_comm]
  refine Agree.sum fun s => ?_
  rw [mul_comm]
  refine Agree.trans (Or.inl ?_) (Agree.sum_mul _ ⟨w s, rfl⟩).symm
  exact Finset.sum_congr rfl fun d _ => mul_right_comm _ _ _

/-- With nonnegative real weights a bias, real or not, leaves the weighted sum times the weights' sum. -/
theorem bias_out (w : Fin 64 → ℝ) (hw : ∀ s, 0 ≤ w s) (x : Fin 64 → EReal) (b : EReal) :
    ∑ s, (w s : EReal) * (x s + b) = (∑ s, (w s : EReal) * x s) + ((∑ s, w s : ℝ) : EReal) * b := by
  have h0 : ∀ s, (0 : EReal) ≤ (w s : EReal) := fun s => by exact_mod_cast hw s
  rw [← sum_coe, sum_mul_nonneg _ _ _ h0, ← Finset.sum_add_distrib]
  exact Finset.sum_congr rfl fun s _ => EReal.left_distrib_of_nonneg_of_ne_top (h0 s) (EReal.coe_ne_top _) _ _

/-- THE SCORES: the reference's are the kernel's plus one real number, the same for all slots. -/
theorem scores (h : Finite P R) : ∃ k : ℝ, scoreR P R = fun s => scoreK P R s + (k : EReal) := by
  choose q hq using queryK_real h
  choose K hK using h.key
  choose wk hwk using h.wk
  choose bk hbk using h.bk
  have hp : ∀ d, pullK P R d = ((∑ e, q e * wk d e : ℝ) : EReal) := fun d => by
    unfold pullK
    rw [← sum_coe]
    exact Finset.sum_congr rfl fun e _ => by rw [hq, hwk, EReal.coe_mul]
  have hk : ∀ s e, keyR P R s e = (((∑ d, K s d * wk d e) + bk e : ℝ) : EReal) := fun s e => by
    unfold keyR
    rw [EReal.coe_add, ← sum_coe, hbk]
    refine congrArg (· + (bk e : EReal)) ?_
    exact Finset.sum_congr rfl fun d _ => by rw [hK, hwk, EReal.coe_mul]
  refine ⟨(∑ e, q e * bk e) * (Real.sqrt 512)⁻¹, funext fun s => ?_⟩
  have h5 : (0 : ℝ) < Real.sqrt 512 := Real.sqrt_pos.2 (by norm_num)
  unfold scoreR scoreK
  by_cases hs : R.keep s
  · rw [if_pos hs, if_pos hs, len_eq, Ideal.sqrt_coe, if_neg (by norm_num), Ideal.div_coe h5.ne']
    have e1 : ∑ e, queryR P R e * keyR P R s e = ((∑ e, q e * ((∑ d, K s d * wk d e) + bk e) : ℝ) : EReal) := by
      rw [← sum_coe, ← queryK_eq_queryR]
      exact Finset.sum_congr rfl fun e _ => by rw [hq, hk, EReal.coe_mul]
    have e2 : ∑ d, R.key s d * pullK P R d = ((∑ d, K s d * ∑ e, q e * wk d e : ℝ) : EReal) := by
      rw [← sum_coe]
      exact Finset.sum_congr rfl fun d _ => by rw [hK, hp, EReal.coe_mul]
    rw [e1, e2, carry, ← EReal.coe_mul, ← EReal.coe_mul, ← EReal.coe_add, one_div, add_mul]
  · rw [if_neg hs, if_neg hs, EReal.bot_add]

/-- None of the kernel's scores is `+∞`. -/
theorem scoreK_ne_top (h : Finite P R) (s : Fin 64) : scoreK P R s ≠ ⊤ := by
  unfold scoreK
  by_cases hs : R.keep s
  · rw [if_pos hs]
    have : IsReal (∑ d, R.key s d * pullK P R d) :=
      IsReal.sum fun d => (h.key s d).mul (IsReal.sum fun e => (queryK_real h e).mul (h.wk d e))
    obtain ⟨r, hr⟩ := this
    rw [hr, ← EReal.coe_mul]
    exact EReal.coe_ne_top _
  · rw [if_neg hs]
    exact bot_ne_top

/-- THE RETRIEVED VECTORS of the two sides agree, entry by entry. -/
theorem readK_agree_readR (h : Finite P R) (e : Fin 512) : Agree (readK P R e) (readR P R e) := by
  obtain ⟨w, hw, hwK, hwR, hT⟩ := weights (scoreK P R) (prio P R) (scoreK_ne_top h) fun s => softplus_nonneg _
  obtain ⟨k, hk⟩ := scores h
  have hK : readK P R e = (∑ d, (∑ s, R.val s d * (w s : EReal)) * P.wv d e) + ((∑ s, w s : ℝ) : EReal) * P.bv e := by
    unfold readK mixK
    simp only [hwK, hT]
  have hR : readR P R e = (∑ s, (w s : EReal) * ∑ d, R.val s d * P.wv d e) + ((∑ s, w s : ℝ) : EReal) * P.bv e := by
    unfold readR valR
    rw [hk, weightR_shift]
    simp only [hwR]
    exact bias_out w hw _ _
  rw [hK, hR]
  exact (mixture w R.val (fun d => P.wv d e) fun d => h.wv d e).add _

/-- THE EQUATION: the kernel's row is the reference's. -/
theorem kernelRow_eq_referenceRow (h : Finite P R) (j : Fin 512) : kernelRow P R j = referenceRow P R j := by
  unfold kernelRow referenceRow
  rw [← normK_eq_normR]
  refine congrFun (normK_agree _ _ _ _ fun i => ?_) j
  exact (Agree.sum fun e => (readK_agree_readR h e).mul _).add _

end Cert.Retrieval

end
-- ==== Proof.Precondition.lean ====
/-
  THE PRECONDITION: what the claim assumes of the argument arrays, `|x| < ∞` at every entry of eight of them, says that the stored
  keys, the projections and the query's gain and bias are real numbers.
-/
module

public import proofs.«01_k».proof.Defs
public import proofs.«01_k».proof.Proof.Gen.Pre_finite_attention
public import proofs.«01_k».proof.Proof.KernelValue
public import proofs.«01_k».proof.Proof.Equation

@[expose] public section

set_option maxRecDepth 16384

noncomputable section

namespace Cert.Retrieval

open Idealize.ShloMosaic Idealize.ShloMosaic.TcCoe Idealize.SL.Sem
open Cert.KernelIdeal

/-- An array whose comparison `|x| < ∞` is set everywhere holds real numbers. -/
theorem real_of_lt {S : Shape} (x : FVec Ideal S .f32)
    (h : cmpf .olt (Host.absf x) (fun _ => Ideal.ofBits .f32 0x7F800000#32 : FVec Ideal S .f32) = fun _ => 1#1) (i : S.Idx) :
    IsReal (x i) := by
  have hi := congrFun h i
  have hlt : max (x i : EReal) (-(x i : EReal)) < ⊤ := by
    by_contra hc
    have : cmpf .olt (Host.absf x) (fun _ => Ideal.ofBits .f32 0x7F800000#32 : FVec Ideal S .f32) i = 0#1 := by
      show (BitVec.ofBool (decide (max (x i : EReal) (-(x i : EReal)) < Ideal.ofBits .f32 0x7F800000#32))) = 0#1
      rw [ofBits_top, decide_eq_false hc]
      rfl
    rw [this] at hi
    exact absurd hi (by decide)
  refine IsReal.of_ne ?_ ?_ <;> intro e <;> rw [e] at hlt <;> simp at hlt

/-- The claim's precondition makes `Finite` true of every batch row. -/
theorem finite_of_pre (m : (ℓ : Loc nD τ sig) → Buf (Elt Ideal) ℓ)
    (hpre : Cert.Pre_KernelIdeal_finite_attention (hPre_finite_attention := Cert.Pre_finite_attention.Gen.facts) m)
    (c : Dev nD) (b : Fin 1024) :
    Finite (KernelValue.args m c).params ((KernelValue.args m c).row b) := by
  obtain ⟨h1, h4, h5, h6, h7, h8, h12, h13⟩ := hpre c
  exact
    { key := fun s d => real_of_lt (KernelValue.args m c).a1 h1 (ix3 b s d)
      wq := fun i e => real_of_lt (KernelValue.args m c).a4 h4 (ix2 i e)
      bq := fun e => real_of_lt (KernelValue.args m c).a5 h5 (ix1 e)
      wk := fun i e => real_of_lt (KernelValue.args m c).a6 h6 (ix2 i e)
      bk := fun e => real_of_lt (KernelValue.args m c).a7 h7 (ix1 e)
      wv := fun i e => real_of_lt (KernelValue.args m c).a8 h8 (ix2 i e)
      gq := fun e => real_of_lt (KernelValue.args m c).a12 h12 (ix1 e)
      cq := fun e => real_of_lt (KernelValue.args m c).a13 h13 (ix1 e) }

/-- Under the precondition the kernel's result array is the reference's. -/
theorem kernelOf_eq_resultOf (m : (ℓ : Loc nD τ sig) → Buf (Elt Ideal) ℓ)
    (hpre : Cert.Pre_KernelIdeal_finite_attention (hPre_finite_attention := Cert.Pre_finite_attention.Gen.facts) m)
    (c : Dev nD) : kernelOf (KernelValue.args m c) = resultOf (KernelValue.args m c) := by
  funext i
  exact kernelRow_eq_referenceRow (finite_of_pre m hpre c (i 0)) (i 1)

end Cert.Retrieval

end
-- ==== Proof.lean ====
/-
  THE CLAIM. The printed kernel, its idealisation and the idealised reference run to their ends, keep their arguments and leave
  every counter at zero; the idealisation is the printed kernel with the two named constants; and on extended reals, where the
  stored keys, the projections and the query's gain and bias are real, the kernel's result array is the reference's.
-/
module

public import proofs.«01_k».proof.Defs
public import proofs.«01_k».proof.Proof.Gen.Kernel.Frame
public import proofs.«01_k».proof.Proof.KernelValue
public import proofs.«01_k».proof.Proof.ReferenceValue
public import proofs.«01_k».proof.Proof.Precondition
public import Idealize.ShloMosaic.Lib.Quiescent

@[expose] public section

set_option maxRecDepth 16384

noncomputable section

namespace Cert.Proof

open Idealize.ShloMosaic Idealize.ShloMosaic.TcCoe Idealize.SL.Sem Cert.Retrieval

/-- From any memory the reference ends with its arguments kept and every counter at zero. -/
theorem reference_frame : Cert.quiescent_ReferenceIdeal (hReferenceIdeal := Cert.ReferenceIdeal.Gen.facts) :=
  fun m ρ _ => (θ_run _ _ _).mono
    (fun r h => ⟨fun c => (h c).2, sem_eq_zero_of_no_sems (by decide) r.2⟩) (ReferenceValue.run m ρ)

/-- The value claim. -/
theorem value : Cert.algebraic_KernelIdeal_ReferenceIdeal_pre_finite_attention (hKernelIdeal := Cert.KernelIdeal.Gen.facts)
    (hReferenceIdeal := Cert.ReferenceIdeal.Gen.facts) (hPre_finite_attention := Cert.Pre_finite_attention.Gen.facts) := by
  intro m g m' g' hpre hagree
  refine ⟨fun c => (kernelOf (KernelValue.args m c) : FVec Ideal ⟨2, ![1024, 512]⟩ .f32), KernelValue.run m g, ?_⟩
  refine (θ_run _ _ _).mono (fun r h c => ⟨(h c).1.trans ?_, (h c).2⟩) (ReferenceValue.run m' g')
  have e : ReferenceValue.args (StableHlo.launchContents m' c) = KernelValue.args m c := by
    obtain ⟨h0, h1, h2, h3, h4, h5, h6, h7, h8, h9, h10, h11, h12, h13, h14, h15, h16, h17, h18, h19⟩ := hagree c
    unfold ReferenceValue.args KernelValue.args
    rw [← h0, ← h1, ← h2, ← h3, ← h4, ← h5, ← h6, ← h7, ← h8, ← h9, ← h10, ← h11, ← h12, ← h13, ← h14, ← h15, ← h16, ← h17,
      ← h18, ← h19]
  rw [e]
  exact (kernelOf_eq_resultOf m hpre c).symm

/-- Everything the certificate claims. -/
theorem claim : Cert.Claim :=
  ⟨Cert.Kernel.Gen.facts, Cert.KernelIdeal.Gen.facts, Cert.ReferenceIdeal.Gen.facts, Cert.Pre_finite_attention.Gen.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    ⟨IdealRules.named_const.statement Cert.KernelIdeal.κ "inv_sqrt_d" .f32 0x3D3504F3#32 (((Real.sqrt 512)⁻¹ : ℝ) : EReal) rfl,
      IdealRules.named_const.statement Cert.KernelIdeal.κ "mask" .f32 0xCE6E6B28#32 ⊥ rfl⟩,
    value⟩

end Cert.Proof

end
